-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .bf16) (main_arg1 : FVec F S256x16 .bf16) (main_arg2 : IVec S512x1 32) (main_arg3 : FVec F S4x256x512 .bf16) (main_arg4 : FVec F S256x512 .bf16) : IVec S512x256 1 × IVec S256x16 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  (main_v3, main_v7)
-- ==== Pre_finite_ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S256x512 : Shape := ⟨2, ![256, 512]⟩
abbrev S_ : Shape := ⟨0, ![]⟩

class Facts : Prop where
  bitsLt_bf16_f32 : FTy.bits .bf16 < FTy.bits .f32
  bcast_S_S2048x256 : S_.BroadcastsInDim S2048x256 (![] : Fin 0 → Fin S2048x256.rank)
  bcast_S_S256x16 : S_.BroadcastsInDim S256x16 (![] : Fin 0 → Fin S256x16.rank)

variable [Facts]

def fn {F : FTy → Type} [FloatOps F] (main_arg0 : FVec F S2048x256 .bf16) (main_arg1 : FVec F S256x16 .bf16) (main_arg2 : IVec S2048x1 32) (main_arg3 : FVec F S16x256x512 .bf16) (main_arg4 : FVec F S256x512 .bf16) : IVec S2048x256 1 × IVec S256x16 1 :=
  let main_v0 : FVec F S2048x256 .f32 := (extf .f32 · bitsLt_bf16_f32) main_arg0
  let main_v1 : FVec F S2048x256 .f32 := Host.absf main_v0
  let main_cst : FVec F S_ .f32 := constant S_ .f32 0x7F800000#32
  let main_v2 : FVec F S2048x256 .f32 := broadcastInDim S2048x256 ![] bcast_S_S2048x256 main_cst
  let main_v3 : IVec S2048x256 1 := cmpf .olt main_v1 main_v2
  let main_v4 : FVec F S256x16 .f32 := (extf .f32 · bitsLt_bf16_f32) main_arg1
  let main_v5 : FVec F S256x16 .f32 := Host.absf main_v4
  let main_cst_0 : FVec F S_ .f32 := constant S_ .f32 0x7F800000#32
  let main_v6 : FVec F S256x16 .f32 := broadcastInDim S256x16 ![] bcast_S_S256x16 main_cst_0
  let main_v7 : IVec S256x16 1 := cmpf .olt main_v5 main_v6
  (main_v3, main_v7)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S2x4x2x256x512 : Shape := ⟨5, ![2, 4, 2, 256, 512]⟩
abbrev S2x3x2 : Shape := ⟨3, ![2, 3, 2]⟩
abbrev S_ : Shape := ⟨0, ![]⟩
abbrev S2x256x512 : Shape := ⟨3, ![2, 256, 512]⟩
abbrev S1x1x2x256x512 : Shape := ⟨5, ![1, 1, 2, 256, 512]⟩
abbrev S512x16 : Shape := ⟨2, ![512, 16]⟩
abbrev S512 : Shape := ⟨1, ![512]⟩
abbrev S1x1x1 : Shape := ⟨3, ![1, 1, 1]⟩
abbrev S1x1x1x256x512 : Shape := ⟨5, ![1, 1, 1, 256, 512]⟩

abbrev nBuf : Space → Nat
  | .hbm => 6
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .f32⟩
  | .local _ .vmem, ⟨6, _⟩ => ⟨S2x4x2x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_43 : BitVec 32 := 1#32
  let v49 : BitVec 32 := Scalar.muli v6 c1_i32_43
  let v50 : BitVec 32 := Scalar.addi c0_i32_44 v49
  v50.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_61 : BitVec 32 := 1#32
  let v59 : BitVec 32 := Scalar.muli v6 c1_i32_61
  let v60 : BitVec 32 := Scalar.addi c0_i32_62 v59
  v60.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_79 : BitVec 32 := 1#32
  let v69 : BitVec 32 := Scalar.muli v4 c1_i32_79
  let v70 : BitVec 32 := Scalar.addi c0_i32_80 v69
  v70.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_97 : BitVec 32 := 1#32
  let v79 : BitVec 32 := Scalar.muli v4 c1_i32_97
  let v80 : BitVec 32 := Scalar.addi c0_i32_98 v79
  v80.toNat
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_184 : BitVec 32 := 1#32
  let v160 : BitVec 32 := Scalar.muli v6 c1_i32_184
  let v161 : BitVec 32 := Scalar.addi c0_i32_185 v160
  v161.toNat
def k0_dev8 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_220 : BitVec 32 := 1#32
  let v178 : BitVec 32 := Scalar.muli v6 c1_i32_220
  let v179 : BitVec 32 := Scalar.addi c0_i32_221 v178
  v179.toNat
def k0_dev9 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_256 : BitVec 32 := 1#32
  let v196 : BitVec 32 := Scalar.muli v4 c1_i32_256
  let v197 : BitVec 32 := Scalar.addi c0_i32_257 v196
  v197.toNat
def k0_dev10 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_292 : BitVec 32 := 1#32
  let v214 : BitVec 32 := Scalar.muli v4 c1_i32_292
  let v215 : BitVec 32 := Scalar.addi c0_i32_293 v214
  v215.toNat
def k0_dev11 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_380 : BitVec 32 := 1#32
  let v296 : BitVec 32 := Scalar.muli v6 c1_i32_380
  let v297 : BitVec 32 := Scalar.addi c0_i32_381 v296
  v297.toNat
def k0_dev12 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_416 : BitVec 32 := 1#32
  let v314 : BitVec 32 := Scalar.muli v6 c1_i32_416
  let v315 : BitVec 32 := Scalar.addi c0_i32_417 v314
  v315.toNat
def k0_dev13 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_452 : BitVec 32 := 1#32
  let v332 : BitVec 32 := Scalar.muli v4 c1_i32_452
  let v333 : BitVec 32 := Scalar.addi c0_i32_453 v332
  v333.toNat
def k0_dev14 (d0 : Dev nD) : Nat :=
  let c0_i32_489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_488 : BitVec 32 := 1#32
  let v350 : BitVec 32 := Scalar.muli v4 c1_i32_488
  let v351 : BitVec 32 := Scalar.addi c0_i32_489 v350
  v351.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S256x512 : Shape := ⟨2, ![256, 512]⟩
abbrev S2048x16 : Shape := ⟨2, ![2048, 16]⟩
abbrev S_ : Shape := ⟨0, ![]⟩
abbrev S2048 : Shape := ⟨1, ![2048]⟩
abbrev S2048x512 : Shape := ⟨2, ![2048, 512]⟩
abbrev S1x16 : Shape := ⟨2, ![1, 16]⟩
abbrev S2048x16x512 : Shape := ⟨3, ![2048, 16, 512]⟩
abbrev S2048x16x1 : Shape := ⟨3, ![2048, 16, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x16, .bf16⟩
  | .hbm, ⟨2, _⟩ => ⟨S2048x1, .i32⟩
  | .hbm, ⟨3, _⟩ => ⟨S16x256x512, .bf16⟩
  | .hbm, ⟨4, _⟩ => ⟨S256x512, .bf16⟩
  | .hbm, ⟨5, _⟩ => ⟨S2048x256, .f32⟩
  | .hbm, ⟨6, _⟩ => ⟨S256x16, .f32⟩
  | .hbm, ⟨7, _⟩ => ⟨S2048x16, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x16, .f32⟩
  | .hbm, ⟨18, _⟩ => ⟨S2048x16, .f32⟩
  | .hbm, ⟨19, _⟩ => ⟨S256x512, .f32⟩
  | .hbm, ⟨20, _⟩ => ⟨S2048x512, .f32⟩
  | .hbm, ⟨21, _⟩ => ⟨S2048, .i32⟩
  | .hbm, ⟨22, _⟩ => ⟨S2048x1, .i32⟩
  | .hbm, ⟨23, _⟩ => ⟨S1x16, .i32⟩
  | .hbm, ⟨24, _⟩ => ⟨S2048x16, .i32⟩
  | .hbm, ⟨25, _⟩ => ⟨S2048x16, .i32⟩
  | .hbm, ⟨26, _⟩ => ⟨S2048x16, .i1⟩
  | .hbm, ⟨27, _⟩ => ⟨S2048x16, .f32⟩
  | .hbm, ⟨28, _⟩ => ⟨S2048x16, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S16x256x512, .f32⟩
  | .hbm, ⟨33, _⟩ => ⟨S2048x16x512, .f32⟩
  | .hbm, ⟨34, _⟩ => ⟨S2048x16x1, .f32⟩
  | .hbm, ⟨35, _⟩ => ⟨S2048x16x512, .f32⟩
  | .hbm, ⟨36, _⟩ => ⟨S2048x16x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.KernelIdeal.Slots.lean ====
/-
# The relay's geometry and contents

Four devices stand in a ring. Each holds four experts' weight blocks; blocks 0 and 1 travel to the right (towards
`nxt`), blocks 2 and 3 to the left (towards `prv`), three hops each. The scratch buffer has one slot per
(direction, hop, block): hop 0 is the device's own blocks, hop `h` what arrived on the `h`-th hop. This module
names the slots, what each slot holds once it has been filled, and the two facts the protocol turns on: copying a
slot to the neighbour's next slot fills it with what it should hold, and the two stores of the device's own blocks
fill the four hop-0 slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ValueIdx
public import Idealize.ShloMosaic.Lib.ValueLayout
public import Idealize.ShloMosaic.Lib.Tactic

@[expose] public section

noncomputable section

namespace Cert.KernelIdeal.Relay

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ)

/-! ## The ring -/

set_option backward.proofsInPublic true in
/-- The neighbour on the right. -/
def nxt (c : Dev nD) : Dev nD := ⟨(c.val + 1) % 4, Nat.mod_lt _ (by decide)⟩
set_option backward.proofsInPublic true in
/-- The neighbour on the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring's rotation by one. -/
def ring : Dev nD ≃ Dev nD := ⟨nxt, prv, prv_nxt, nxt_prv⟩

/-! ## Slots and transfers -/

/-- A slot: direction, hop, block. -/
abbrev Sl : Type := Fin 2 × Fin 4 × Fin 2
/-- A transfer: direction, hop, block. -/
abbrev Xf : Type := Fin 2 × Fin 3 × Fin 2

/-- A transfer reads the slot of its hop -/
abbrev srcSl (x : Xf) : Sl := (x.1, x.2.1.castSucc, x.2.2)
/-- and fills, on the neighbour, the slot of the next hop. -/
abbrev dstSl (x : Xf) : Sl := (x.1, x.2.1.succ, x.2.2)

/-- The device a transfer of device `c` writes to. -/
def tgt (x : Xf) (c : Dev nD) : Dev nD := if x.1 = 0 then nxt c else prv c
/-- The device whose transfer `x` writes to device `c`. -/
def frm (x : Xf) (c : Dev nD) : Dev nD := if x.1 = 0 then prv c else nxt c

theorem frm_tgt (x : Xf) (c : Dev nD) : frm x (tgt x c) = c := by
  unfold frm tgt; split
  · exact prv_nxt c
  · exact nxt_prv c
theorem tgt_frm (x : Xf) (c : Dev nD) : tgt x (frm x c) = c := by
  unfold frm tgt; split
  · exact nxt_prv c
  · exact prv_nxt c

theorem slotInb (s : Sl) : ∀ a, (![s.1.val, s.2.1.val, s.2.2.val, 0, 0] : Fin 5 → Nat) a + S1x1x1x256x512.size a ≤ S2x4x2x256x512.size a := by
  obtain ⟨d, h, j⟩ := s
  intro a
  have := d.isLt; have := h.isLt; have := j.isLt
  fin_cases a <;> simp <;> omega

/-- A slot's rectangle of the scratch buffer. -/
abbrev slotR (s : Sl) : Rect S2x4x2x256x512 :=
  Rect.unit (s := S2x4x2x256x512) ![s.1.val, s.2.1.val, s.2.2.val, 0, 0] S1x1x1x256x512.size (slotInb s)

/-- A slot as a memory reference of one weight block's shape. -/
abbrev slotM (s : Sl) : Memref sig .tc .vmem S256x512 .bf16 :=
  ((Memref.whole cc0_scratch0).slice (slotR s) (fun _ => rfl)).squeeze S256x512 squeezes_S1x1x1x256x512_S256x512

/-- A slot's elements. -/
def slotSet (s : Sl) : Finset S2x4x2x256x512.Idx := (slotR s).set

theorem mem_slotSet (s : Sl) (i : S2x4x2x256x512.Idx) :
    i ∈ slotSet s ↔ (i 0).val = s.1.val ∧ (i 1).val = s.2.1.val ∧ (i 2).val = s.2.2.val := by
  unfold slotSet
  rw [LoadRect.mem_set]
  constructor
  · intro h
    obtain ⟨j0, h0, e0⟩ := h 0
    obtain ⟨j1, h1, e1⟩ := h 1
    obtain ⟨j2, h2, e2⟩ := h 2
    simp at h0 h1 h2 e0 e1 e2
    subst h0 h1 h2
    exact ⟨by omega, by omega, by omega⟩
  · rintro ⟨e0, e1, e2⟩ a
    match a with
    | ⟨0, _⟩ => exact ⟨0, Nat.one_pos, by simpa using e0⟩
    | ⟨1, _⟩ => exact ⟨0, Nat.one_pos, by simpa using e1⟩
    | ⟨2, _⟩ => exact ⟨0, Nat.one_pos, by simpa using e2⟩
    | ⟨3, _⟩ => exact ⟨(i 3).val, (i 3).isLt, by simp⟩
    | ⟨4, _⟩ => exact ⟨(i 4).val, (i 4).isLt, by simp⟩

theorem slotM_set (s : Sl) : (slotM s).view.set = slotSet s := by
  rw [Memref.set_view_squeeze]
  exact View.set_slice_whole _ _

/-- No two slots share an element; -/
theorem slot_disj (s s' : Sl) (h : s ≠ s') : Disjoint (slotSet s) (slotSet s') := by
  refine Finset.disjoint_left.mpr fun i hi hi' => h ?_
  rw [mem_slotSet] at hi hi'
  exact Prod.ext (Fin.ext (hi.1.symm.trans hi'.1))
    (Prod.ext (Fin.ext (hi.2.1.symm.trans hi'.2.1)) (Fin.ext (hi.2.2.symm.trans hi'.2.2)))

/-- the slots are the whole buffer. -/
theorem slot_cover : (Finset.univ : Finset Sl).biUnion slotSet = Finset.univ := by
  refine Finset.eq_univ_iff_forall.mpr fun i => Finset.mem_biUnion.mpr ⟨((i 0), (i 1), (i 2)), Finset.mem_univ _, ?_⟩
  rw [mem_slotSet]
  exact ⟨rfl, rfl, rfl⟩

/-! ## What the slots hold -/

/-- The device whose blocks device `c`'s slots of direction `d` and hop `h` hold. -/
def origin (c : Dev nD) (d : Fin 2) (h : Fin 4) : Dev nD :=
  if d = 0 then ⟨(c.val + (4 - h.val)) % 4, Nat.mod_lt _ (by decide)⟩ else ⟨(c.val + h.val) % 4, Nat.mod_lt _ (by decide)⟩

theorem origin_zero (c : Dev nD) (d : Fin 2) : origin c d 0 = c := by revert c d; decide
theorem origin_hop (c : Dev nD) (x : Xf) : origin (tgt x c) x.1 x.2.1.succ = origin c x.1 x.2.1.castSucc := by revert c x; decide

/-- Device `c`'s own four weight blocks, as staged. -/
def wown (c : Dev nD) : S4x256x512.Idx → Elt F .bf16 := iblk m c 3 t0_0

/-- Block `j` of direction `d` among a device's four. -/
abbrev rowOf (d j : Fin 2) : Fin 4 := ⟨d.val * 2 + j.val, by omega⟩

/-- What device `c`'s scratch buffer holds once every slot is filled. -/
def full (c : Dev nD) : S2x4x2x256x512.Idx → Elt F .bf16 := fun i =>
  wown m (origin c (i 0) (i 1)) (ix3 (rowOf (i 0) (i 2)) (i 3) (i 4))

/-- A slot's index, from the block's (whose three leading axes have one coordinate each). -/
theorem slot_idx (s : Sl) (q : S1x1x1x256x512.Idx) : (slotR s).emb q = ix5 s.1 s.2.1 s.2.2 (q 3) (q 4) := by
  funext a
  refine Fin.ext ?_
  have h0 : (q 0).val = 0 := by have := (q 0).isLt; simpa using this
  have h1 : (q 1).val = 0 := by have := (q 1).isLt; simpa using this
  have h2 : (q 2).val = 0 := by have := (q 2).isLt; simpa using this
  rw [Rect.emb_apply]
  match a with
  | ⟨0, _⟩ => simp [h0]
  | ⟨1, _⟩ => simp [h1]
  | ⟨2, _⟩ => simp [h2]
  | ⟨3, _⟩ => simp
  | ⟨4, _⟩ => simp

theorem slotM_emb (s : Sl) (p : S256x512.Idx) :
    (slotM s).view.emb p = (slotR s).emb (Shape.reshapeEquiv squeezes_S1x1x1x256x512_S256x512.numel_eq p) := rfl

/-- COPYING a filled slot to the neighbour's next slot fills that one. -/
theorem hop_fills (c : Dev nD) (x : Xf) (fd : S2x4x2x256x512.Idx → Elt F .bf16) :
    ∀ i ∈ slotSet (dstSl x),
      (slotM (dstSl x)).view.write (Elt F) fd ((slotM (srcSl x)).view.read (Elt F) (full m c)) Finset.univ i = full m (tgt x c) i := by
  intro i hi
  rw [← slotM_set] at hi
  obtain ⟨p, -, rfl⟩ := Finset.mem_map.mp hi
  rw [View.write_emb_of_mem _ _ (Finset.mem_univ _)]
  show full m c ((slotM (srcSl x)).view.emb p) = full m (tgt x c) ((slotM (dstSl x)).view.emb p)
  rw [slotM_emb, slotM_emb, slot_idx, slot_idx]
  show wown m (origin c x.1 x.2.1.castSucc) _ = wown m (origin (tgt x c) x.1 x.2.1.succ) _
  rw [origin_hop]

/-! ## The device's own blocks -/

theorem ownInb (d : Fin 2) : ∀ a, (![d.val, 0, 0, 0, 0] : Fin 5 → Nat) a + S1x1x2x256x512.size a ≤ S2x4x2x256x512.size a := by
  intro a; fin_cases d <;> fin_cases a <;> decide

/-- The two hop-0 slots of a direction, as one rectangle. -/
abbrev ownR (d : Fin 2) : Rect S2x4x2x256x512 :=
  Rect.unit (s := S2x4x2x256x512) ![d.val, 0, 0, 0, 0] S1x1x2x256x512.size (ownInb d)

theorem ownR_set (d : Fin 2) : (ownR d).set = slotSet (d, 0, 0) ∪ slotSet (d, 0, 1) := by
  ext i
  rw [Finset.mem_union, mem_slotSet, mem_slotSet, LoadRect.mem_set]
  constructor
  · intro h
    obtain ⟨j0, h0, e0⟩ := h 0
    obtain ⟨j1, h1, e1⟩ := h 1
    simp at h0 h1 e0 e1
    subst h0 h1
    have h2 := (i 2).isLt
    have h2' : (i 2).val < 2 := h2
    rcases (by omega : (i 2).val = 0 ∨ (i 2).val = 1) with h | h
    · exact .inl ⟨by omega, by simpa using e1, h⟩
    · exact .inr ⟨by omega, by simpa using e1, h⟩
  · intro h a
    have e0 : (i 0).val = d.val := by rcases h with h | h <;> exact h.1
    have e1 : (i 1).val = 0 := by rcases h with h | h <;> exact h.2.1
    match a with
    | ⟨0, _⟩ => exact ⟨0, Nat.one_pos, by simpa using e0⟩
    | ⟨1, _⟩ => exact ⟨0, Nat.one_pos, by simpa using e1⟩
    | ⟨2, _⟩ => exact ⟨(i 2).val, (i 2).isLt, by simp⟩
    | ⟨3, _⟩ => exact ⟨(i 3).val, (i 3).isLt, by simp⟩
    | ⟨4, _⟩ => exact ⟨(i 4).val, (i 4).isLt, by simp⟩

theorem own_idx (d : Fin 2) (q : S1x1x2x256x512.Idx) : (ownR d).emb q = ix5 d (0 : Fin 4) (q 2) (q 3) (q 4) := by
  funext a
  refine Fin.ext ?_
  have h0 : (q 0).val = 0 := by have := (q 0).isLt; simpa using this
  have h1 : (q 1).val = 0 := by have := (q 1).isLt; simpa using this
  rw [Rect.emb_apply]
  match a with
  | ⟨0, _⟩ => simp [h0]
  | ⟨1, _⟩ => simp [h1]
  | ⟨2, _⟩ => simp
  | ⟨3, _⟩ => simp
  | ⟨4, _⟩ => simp

theorem twoInb (d : Fin 2) : ∀ a, (![d.val * 2, 0, 0] : Fin 3 → Nat) a + S2x256x512.size a ≤ S4x256x512.size a := by
  intro a; fin_cases d <;> fin_cases a <;> decide

/-- A direction's two blocks among the device's four. -/
abbrev twoR (d : Fin 2) : Rect S4x256x512 :=
  Rect.unit (s := S4x256x512) ![d.val * 2, 0, 0] S2x256x512.size (twoInb d)

/-- What the kernel loads of its own weights for a direction. -/
def wtwo (c : Dev nD) (d : Fin 2) : S2x256x512.Idx → Elt F .bf16 :=
  (Memref.whole cc0_stg3_0 : Memref sig .tc .vmem S4x256x512 .bf16).view.readAt (Elt F) (twoR d).toLoadRect (wown m c)

theorem wtwo_apply (c : Dev nD) (d j : Fin 2) (k : Fin 256) (f : Fin 512) : wtwo m c d (ix3 j k f) = wown m c (ix3 (rowOf d j) k f) := by
  refine congrArg (wown m c) (funext fun a => Fin.ext ?_)
  match a with
  | ⟨0, _⟩ => show d.val * 2 + 1 * j.val = d.val * 2 + j.val; omega
  | ⟨1, _⟩ => show 0 + 1 * k.val = k.val; omega
  | ⟨2, _⟩ => show 0 + 1 * f.val = f.val; omega

/-- The block pair as stored: two unit axes in front. -/
theorem pay_apply (v : Vec F S2x256x512 .bf16) (q : S1x1x2x256x512.Idx) :
    (k0_pay1 v q = v (ix3 (q 2) (q 3) (q 4))) ∧ k0_pay2 v q = v (ix3 (q 2) (q 3) (q 4)) := by
  have h0 : (q 0).val = 0 := by have := (q 0).isLt; simpa using this
  have h1 : (q 1).val = 0 := by have := (q 1).isLt; simpa using this
  have key : ∀ (h : S2x256x512.ShapeCasts S1x1x2x256x512), shapeCast S1x1x2x256x512 v h q = v (ix3 (q 2) (q 3) (q 4)) := fun h =>
    shapeCast_apply v h q _ (by
      rw [Shape.rowMajor_val_three, Shape.rowMajor_val_five, h0, h1]
      simp)
  constructor
  · show shapeCast S1x1x2x256x512 (shapeCast S2x256x512 v _) _ q = _
    rw [shapeCast_self]; exact key _
  · show shapeCast S1x1x2x256x512 (shapeCast S2x256x512 v _) _ q = _
    rw [shapeCast_self]; exact key _

/-- STORING the device's own pair of blocks fills its two hop-0 slots of that direction. -/
theorem own_fills (c : Dev nD) (d : Fin 2) (fd : S2x4x2x256x512.Idx → Elt F .bf16) (w : S1x1x2x256x512.Idx → Elt F .bf16)
    (hw : ∀ q, w q = wtwo m c d (ix3 (q 2) (q 3) (q 4))) :
    ∀ i ∈ (ownR d).set,
      ((Memref.whole cc0_scratch0 : Memref sig .tc .vmem S2x4x2x256x512 .bf16).access (ownR d)).write (Elt F) fd w Finset.univ i = full m c i := by
  intro i hi
  rw [← Rect.map_emb_univ] at hi
  obtain ⟨q, -, rfl⟩ := Finset.mem_map.mp hi
  have h := View.write_emb_of_mem (v := (Memref.whole cc0_scratch0 : Memref sig .tc .vmem S2x4x2x256x512 .bf16).access (ownR d)) (Val := Elt F) fd w (Finset.mem_univ q)
  refine (show _ = w q from h).trans ?_
  rw [hw, own_idx]
  refine (wtwo_apply m c d (q 2) (q 3) (q 4)).trans ?_
  show _ = wown m (origin c d 0) _
  rw [origin_zero]

end Cert.KernelIdeal.Relay

end
-- ==== Proof.KernelIdeal.Protocol.lean ====
/-
# The relay's protocol

Who waits on which semaphore, who credits it, by how much, and what each credit hands over:

* the barrier semaphore of a device is credited 1 by each neighbour and waited on for 2. The right neighbour's credit
  hands over its slots that the device's rightward transfers fill, the left neighbour's those the leftward ones fill;
* the send semaphore of a transfer is credited by the transfer itself and hands back the half share of the slot it read;
* the receive semaphore of a transfer is credited by the neighbour's transfer and hands over the filled slot.

Each semaphore is used for one round. A device owes, at the start, its twelve transfers and its two barrier credits;
it waits for a transfer only while what it still owes are transfers of later hops.
-/
module

public import proofs.«01_k».proof.Proof.KernelIdeal.Slots

@[expose] public section

noncomputable section

namespace Cert.KernelIdeal.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- A transfer's place among the twelve. -/
abbrev num (x : Xf) : ℕ := x.1.val * 6 + x.2.1.val * 2 + x.2.2.val

theorem num_lt (x : Xf) : num x < 12 := by revert x; decide

/-- The semaphores of transfer `x`: where its sender waits, where its receiver waits. -/
abbrev sS (x : Xf) : DmaSem sig := ⟨6 + num x, by have := num_lt x; show 6 + num x < 30; omega⟩
abbrev sV (x : Xf) : DmaSem sig := ⟨18 + num x, by have := num_lt x; show 18 + num x < 30; omega⟩

/-- The transfer of a semaphore. -/
def xfOf (q : DmaSem sig) : Xf :=
  (⟨(q.val - 6) % 12 / 6, by omega⟩, ⟨(q.val - 6) % 6 / 2, by omega⟩, ⟨(q.val - 6) % 2, by omega⟩)

theorem xfOf_sS (x : Xf) : xfOf (sS x) = x := by revert x; decide
theorem xfOf_sV (x : Xf) : xfOf (sV x) = x := by revert x; decide

abbrev barCell (c : Dev nD) : GSem nD τ sig := ((c : Thread nD τ), .reg barrier0)
abbrev sCell (x : Xf) (c : Dev nD) : GSem nD τ sig := ((c : Thread nD τ), .dma (sS x))
abbrev vCell (x : Xf) (c : Dev nD) : GSem nD τ sig := ((c : Thread nD τ), .dma (sV x))

/-- What one transfer credits. -/
abbrev N : ℕ := (slotM (0, 0, 0)).view.dmaCredit
theorem N_pos : 0 < N := View.dmaCredit_pos _ (by decide)
theorem credit_slot (s : Sl) : (slotM s).view.dmaCredit = N := rfl

/-! ## Holding slots -/

/-- Share `q` of slot `s` of device `c`, holding `f`. -/
def slotPts (q : PosShare TreeShare) (c : Dev nD) (s : Sl) (f : S2x4x2x256x512.Idx → Elt F .bf16) : sProp 𝕄 :=
  ((c : Thread nD τ).loc cc0_scratch0) ↦[slotSet s]{q} f

/-- A slot held whole, its contents unknown. -/
def anySlot (c : Dev nD) (s : Sl) : sProp 𝕄 := iprop(∃ f, slotPts fullShare c s f)

/-- The slots of one direction that transfers fill. -/
def six (c : Dev nD) (d : Fin 2) : sProp 𝕄 :=
  iprop(anySlot c (d, 1, 0) ∗ anySlot c (d, 1, 1) ∗ anySlot c (d, 2, 0) ∗ anySlot c (d, 2, 1) ∗ anySlot c (d, 3, 0) ∗ anySlot c (d, 3, 1))

omit [FloatOps F] in
instance slotPts_storable (q) (c : Dev nD) (s : Sl) (f) : BI.Storable (upEmb : UEmb _ 𝕄) (slotPts (F := F) q c s f) := by
  unfold slotPts; infer_instance
omit [FloatOps F] in
instance anySlot_storable (c : Dev nD) (s : Sl) : BI.Storable (upEmb : UEmb _ 𝕄) (anySlot (F := F) c s) := by
  unfold anySlot; infer_instance
omit [FloatOps F] in
instance six_storable (c : Dev nD) (d : Fin 2) : BI.Storable (upEmb : UEmb _ 𝕄) (six (F := F) c d) := by
  unfold six; infer_instance

omit [FloatOps F] in
/-- A slot's whole share is its two halves. -/
theorem slot_halves (c : Dev nD) (s : Sl) (f : S2x4x2x256x512.Idx → Elt F .bf16) :
    (slotPts fullShare c s f : sProp 𝕄) ⊣⊢ iprop(slotPts fullShare.left c s f ∗ slotPts fullShare.right c s f) :=
  pointsTo_share (PosShare.mem_left_op_right fullShare)

/-! ## The schedule -/

/-- The relay's schedule (this file's heading). -/
def relayRd : Rounds.Schedule (GSem nD τ sig) Bool 𝕄 where
  duties g r := if r = 0 ∧ g.1.2 = .tc then
      (match g.2 with | .reg _ => Finset.univ | .dma q => if 6 ≤ q.val then {false} else ∅)
    else ∅
  unitless _ := False
  amount g _ _ := match g.2 with | .reg _ => 1 | .dma _ => N
  payload g _ d := match g.2 with
    | .reg _ => if d then six (nxt g.1.1) 0 else six (prv g.1.1) 1
    | .dma q => if q.val < 18 then slotPts fullShare.right g.1.1 (srcSl (xfOf q)) (full m g.1.1)
      else slotPts fullShare g.1.1 (dstSl (xfOf q)) (full m g.1.1)
  amount_pos g _ _ _ := by
    cases g.2 with
    | reg _ => exact Nat.one_pos
    | dma _ => exact N_pos

instance relayRd_payload_storable (g : GSem nD τ sig) (r : ℕ) (d : Bool) :
    BI.Storable (upEmb : UEmb _ 𝕄) ((relayRd (F := F) m).payload g r d) := by
  show BI.Storable upEmb (match g.2 with
    | .reg _ => if d then six (nxt g.1.1) 0 else six (prv g.1.1) 1
    | .dma q => if q.val < 18 then slotPts fullShare.right g.1.1 (srcSl (xfOf q)) (full m g.1.1)
      else slotPts fullShare g.1.1 (dstSl (xfOf q)) (full m g.1.1))
  (repeat' split) <;> infer_instance

section Sched
variable (c : Dev nD) (x : Xf)

theorem duties_bar : (relayRd (F := F) m).duties (barCell c) 0 = Finset.univ := by dsimp only [relayRd]; exact if_pos ⟨rfl, rfl⟩
theorem duties_dma (q : DmaSem sig) (hq : 6 ≤ q.val) : (relayRd (F := F) m).duties ((c : Thread nD τ), .dma q) 0 = {false} := by
  dsimp only [relayRd]; exact (if_pos ⟨rfl, rfl⟩).trans (if_pos hq)
theorem duties_s : (relayRd (F := F) m).duties (sCell x c) 0 = {false} := duties_dma m c _ (by show 6 ≤ 6 + num x; omega)
theorem duties_v : (relayRd (F := F) m).duties (vCell x c) 0 = {false} := duties_dma m c _ (by show 6 ≤ 18 + num x; omega)
theorem duties_later (g : GSem nD τ sig) : ∀ r, 1 ≤ r → (relayRd (F := F) m).duties g r = ∅ :=
  fun r hr => by dsimp only [relayRd]; exact if_neg fun h => by omega

theorem expect_bar : (relayRd (F := F) m).expect (barCell c) 0 = 2 := by
  unfold Schedule.expect Schedule.amountOf
  rw [duties_bar]
  exact (Finset.sum_congr rfl fun d _ => (rfl : (relayRd (F := F) m).amount (barCell c) 0 d = 1)).trans (show ∑ _d : Bool, 1 = 2 from rfl)
theorem expect_dma (q : DmaSem sig) (hq : 6 ≤ q.val) : (relayRd (F := F) m).expect ((c : Thread nD τ), .dma q) 0 = N := by
  unfold Schedule.expect Schedule.amountOf; rw [duties_dma m c q hq, Finset.sum_singleton]; rfl

theorem payload_true : (relayRd (F := F) m).payload (barCell c) 0 true = six (nxt c) 0 := rfl
theorem payload_false : (relayRd (F := F) m).payload (barCell c) 0 false = six (prv c) 1 := by
  dsimp only [relayRd]; exact if_neg Bool.false_ne_true
theorem payload_s (d : Bool) : (relayRd (F := F) m).payload (sCell x c) 0 d = slotPts fullShare.right c (srcSl x) (full m c) := by
  dsimp only [relayRd]
  rw [xfOf_sS]
  exact if_pos (by have := num_lt x; show 6 + num x < 18; omega)
theorem payload_v (d : Bool) : (relayRd (F := F) m).payload (vCell x c) 0 d = slotPts fullShare c (dstSl x) (full m c) := by
  dsimp only [relayRd]
  rw [xfOf_sV]
  exact if_neg (by show ¬ 18 + num x < 18; omega)

theorem rest_bar : bigSep ((relayRd (F := F) m).duties (barCell c) 0 \ ∅) (fun d => (relayRd (F := F) m).payload (barCell c) 0 d)
    = iprop(six (prv c) 1 ∗ six (nxt c) 0) := by
  rw [Finset.sdiff_empty, duties_bar, bigSep_univ_eq_bigSepL [false, true] (by decide) (by decide), bigSepL_cons_cons, bigSepL_singleton,
    payload_false, payload_true]
  rfl
theorem rest_dma (q : DmaSem sig) (hq : 6 ≤ q.val) :
    bigSep ((relayRd (F := F) m).duties ((c : Thread nD τ), .dma q) 0 \ ∅) (fun d => (relayRd (F := F) m).payload ((c : Thread nD τ), .dma q) 0 d)
      = (relayRd (F := F) m).payload ((c : Thread nD τ), .dma q) 0 false := by
  rw [Finset.sdiff_empty, duties_dma m c q hq, bigSep_singleton]

end Sched

/-! ## What a device owes -/

/-- The credits of a list of transfers still to be sent. -/
def due (c : Dev nD) : List Xf → CellTallies nD τ sig Unit
  | [] => 0
  | x :: l => due c l + tallyAt (vCell x (tgt x c)) () N

/-- The transfers in the order in which the kernel sends them. -/
def order : List Xf :=
  [(0, 0, 0), (0, 0, 1), (1, 0, 0), (1, 0, 1), (0, 1, 0), (0, 1, 1), (1, 1, 0), (1, 1, 1), (0, 2, 0), (0, 2, 1), (1, 2, 0), (1, 2, 1)]

/-- The transfers not yet sent after `n` of them. -/
def rest (n : ℕ) : List Xf := order.drop n

/-- At its start a device owes every transfer and a barrier credit to each neighbour. -/
def O₁ (c : Dev nD) : CellTallies nD τ sig Unit := due c (rest 0) + tallyAt (barCell (nxt c)) () 1
def O₀ (c : Dev nD) : CellTallies nD τ sig Unit := O₁ c + tallyAt (barCell (prv c)) () 1

/-- The levels: a device's staging and send cells below its barrier cell, below the receive cells by hop. -/
def L (g : GSem nD τ sig) : Finset Unit := if g.1.2 = .tc then {()} else ∅
def lv (g : GSem nD τ sig) (_ : Unit) : ℕ := match g.2 with
  | .reg _ => 1
  | .dma q => if q.val < 18 then 0 else 2 + (xfOf q).2.1.val

theorem L_of_ne (g : GSem nD τ sig) (h : g.1.2 ≠ .tc) : L g = ∅ := if_neg h
theorem L_tc (c : Dev nD) (sm : SemLoc sig) : L ((c : Thread nD τ), sm) = {()} := if_pos rfl

theorem lv_v (x : Xf) (c : Dev nD) (u : Unit) : lv (vCell x c) u = 2 + x.2.1.val := by
  dsimp only [lv]; rw [xfOf_sV]; exact if_neg (by show ¬ 18 + num x < 18; omega)
theorem lv_low (q : DmaSem sig) (hq : q.val < 18) (c : Dev nD) (u : Unit) : lv ((c : Thread nD τ), .dma q) u = 0 := if_pos hq

theorem due_pos {c : Dev nD} {g : GSem nD τ sig} {u : Unit} : ∀ {l : List Xf}, 0 < due c l g u → ∃ x ∈ l, g = vCell x (tgt x c)
  | [], h => absurd h (Nat.lt_irrefl 0)
  | x :: l, h => by
    unfold due at h
    rw [Pi.add_apply, Finsupp.add_apply, tallyAt_apply] at h
    by_cases hg : g = vCell x (tgt x c)
    · exact ⟨x, List.mem_cons_self, hg⟩
    · rw [if_neg (fun h' => hg h'.1), Nat.add_zero] at h
      obtain ⟨y, hy, e⟩ := due_pos h
      exact ⟨y, List.mem_cons_of_mem _ hy, e⟩

theorem due_bar_pos {c : Dev nD} {l : List Xf} {g a b : GSem nD τ sig} {u : Unit} (h : 0 < (due c l + tallyAt a () 1 + tallyAt b () 1) g u) :
    (∃ x ∈ l, g = vCell x (tgt x c)) ∨ g = a ∨ g = b := by
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  exact hn.1 (due_pos h)

theorem O₀_pos {c : Dev nD} {g : GSem nD τ sig} {u : Unit} (h : 0 < O₀ c g u) :
    (∃ x ∈ rest 0, g = vCell x (tgt x c)) ∨ g = barCell (nxt c) ∨ g = barCell (prv c) :=
  due_bar_pos h

/-- A wait at a cell of level `n` while only transfers of higher levels are owed. -/
theorem mayWait_due (c : Dev nD) (sm : SemLoc sig) (n : ℕ) (l : List Xf) (hn : lv ((c : Thread nD τ), sm) () ≤ n) (hl : ∀ y ∈ l, n < 2 + y.2.1.val) :
    (levAts L lv : sProp 𝕄) ⊢ MayWait (c : Thread nD τ) sm () (due c l) :=
  MayOwe.of_cut (L := L) (lev := lv) n (fun p hp => by rw [Finset.mem_singleton.mp hp, L_tc]; exact Finset.mem_singleton_self _)
    (fun g u hg => by obtain ⟨y, -, rfl⟩ := due_pos hg; exact Finset.mem_singleton_self _)
    (fun p hp => by rw [Finset.mem_singleton.mp hp]; exact hn)
    (fun g u hg => by obtain ⟨y, hy, rfl⟩ := due_pos hg; rw [lv_v]; exact hl y hy)

/-- A staging wait before the body (owing everything) or after it (owing nothing). -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨y, -, rfl⟩ | rfl | rfl <;> exact Finset.mem_singleton_self _)
      (fun p hp => by rw [Finset.mem_singleton.mp hp, lv_low q hq])
      (fun g u hg => by
        rcases O₀_pos hg with ⟨y, -, rfl⟩ | rfl | rfl
        · rw [lv_v]; omega
        · exact Nat.one_pos
        · exact Nat.one_pos)
  · rw [MayWait_zero]; iintro -; iempintro

/-! ## Records and resources -/

/-- The cells of a device: its barrier, its send cells, its receive cells. -/
abbrev Ci : Type := Unit ⊕ (Xf ⊕ Xf)
abbrev semOf : Ci → SemLoc sig
  | .inl _ => .reg barrier0
  | .inr (.inl x) => .dma (sS x)
  | .inr (.inr x) => .dma (sV x)
abbrev kcell (ck : Dev nD × Ci) : GSem nD τ sig := ((ck.1 : Thread nD τ), semOf ck.2)

/-- Every cell's invariant, and that its only round has begun: shared by all devices. -/
def records (K : Dev nD × Ci → ℕ) : sProp 𝕄 :=
  iprop((bigSep Finset.univ fun ck : Dev nD × Ci => cellInv ER (relayRd m) (K ck) (kcell ck))
    ∗ bigSep Finset.univ fun ck : Dev nD × Ci => reached ER (kcell ck) 0)

instance records_persistent (K : Dev nD × Ci → ℕ) : BI.Persistent (records m K) := by unfold records; infer_instance

theorem inv_at (K : Dev nD × Ci → ℕ) (ck : Dev nD × Ci) : records m K ⊢ cellInv ER (relayRd m) (K ck) (kcell ck) := by
  unfold records
  iintro ⟨#H, -⟩
  classical
  iapply (show (bigSep Finset.univ fun ck : Dev nD × Ci => (cellInv ER (relayRd m) (K ck) (kcell ck) : sProp 𝕄)) ⊢ cellInv ER (relayRd m) (K ck) (kcell ck)
    from bigSep_elim (Finset.mem_univ ck))
  iexact H
theorem reached_at (K : Dev nD × Ci → ℕ) (ck : Dev nD × Ci) : records m K ⊢ reached ER (kcell ck) 0 := by
  unfold records
  iintro ⟨-, #H⟩
  classical
  iapply (show (bigSep Finset.univ fun ck : Dev nD × Ci => (reached ER (kcell ck) 0 : sProp 𝕄)) ⊢ reached ER (kcell ck) 0
    from bigSep_elim (Finset.mem_univ ck))
  iexact H

/-- What a device holds to send transfer `x`: the two duties the transfer pays and its place at its send cell. -/
def sendRes (x : Xf) (c : Dev nD) : sProp 𝕄 :=
  iprop(dutyTok ER (sCell x c) 0 false ∗ dutyTok ER (vCell x (tgt x c)) 0 false ∗ atPos ER (sCell x c) 0 ∅ 0)
/-- What it holds to wait for the transfer it sent. -/
def sentRes (x : Xf) (c : Dev nD) : sProp 𝕄 := iprop(cred (tallyAt (sCell x c) () N) ∗ atPos ER (sCell x c) 0 ∅ 0)
/-- What it holds to wait for the transfer it receives. -/
def recvRes (x : Xf) (c : Dev nD) : sProp 𝕄 := iprop(cred (tallyAt (vCell x c) () N) ∗ atPos ER (vCell x c) 0 ∅ 0)

/-- A device's debts, whatever it has waited for. -/
def ow (c : Dev nD) (O : CellTallies nD τ sig Unit) : sProp 𝕄 := iprop(∃ W, owes (c : Thread nD τ) O W)

abbrev 𝒱₀ : Variants := Variants.none

variable (K : Dev nD × Ci → ℕ)

/-- The program's weakest precondition on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A LOAD from the scratch buffer inside a slot held at any share. -/
theorem wp_slot_load (q : PosShare TreeShare) (c : Dev nD) (s : Sl) (f : S2x4x2x256x512.Idx → Elt F .bf16)
    {r : LoadRect S2x4x2x256x512} (hr : r = (slotR s).toLoadRect)
    {hl : (Memref.whole cc0_scratch0 : Memref sig .tc .vmem S2x4x2x256x512 .bf16).view.LoadsAt r}
    {α : Type} {Q : α → sProp 𝕄} {k : (r.shape.Idx → Elt F .bf16) → Prog (TpuEff nD τ sig (Elt F) Λ₀ .tc) α} :
    slotPts q c s f ⊢ iprop((slotPts q c s f -∗ Wp c (k ((Memref.whole cc0_scratch0 : Memref sig .tc .vmem S2x4x2x256x512 .bf16).view.readAt (Elt F) r f)) Q)
      -∗ Wp c (.op (.load (Memref.whole cc0_scratch0) r hl) k) Q) := by
  subst hr
  refine wp_load 𝒱₀ (c : Thread nD τ) none Set.univ (m := (Memref.whole cc0_scratch0 : Memref sig .tc .vmem S2x4x2x256x512 .bf16)) (S := slotSet s) (q := q) (f := f) ?_
  intro i hi
  obtain ⟨p, hp, rfl⟩ := Finset.mem_map.mp hi
  exact hp

/-- A LOAD from a buffer held whole. -/
theorem wp_buf_load (c : Dev nD) {σ : Shape} {t : EltTy} (M : Memref sig .tc .vmem σ t) (X : Buf (Elt F) (M.view.loc (c : Thread nD τ)))
    {r : LoadRect σ} {hl : M.view.LoadsAt r} {α : Type} {Q : α → sProp 𝕄} {k : (r.shape.Idx → Elt F t) → Prog (TpuEff nD τ sig (Elt F) Λ₀ .tc) α} :
    (M.view.loc (c : Thread nD τ) ↦{fullShare} X : sProp 𝕄)
      ⊢ iprop(((M.view.loc (c : Thread nD τ) ↦{fullShare} X) -∗ Wp c (k (M.view.readAt (Elt F) r X)) Q) -∗ Wp c (.op (.load M r hl) k) Q) :=
  wp_load 𝒱₀ (c : Thread nD τ) none Set.univ (m := M) (Finset.subset_univ _)

/-- SENDING transfer `x`, the next one owed: the source slot keeps its left half share. -/
theorem wp_hop (x : Xf) (s s' : Sl) (hs₁ : srcSl x = s) (hs₂ : dstSl x = s') (l' l : List Xf) (hl : l' = x :: l) (c t : Dev nD) (ht : tgt x c = t)
    (n : Dev nD) (hn : n = t) {src dst : Memref sig .tc .vmem S256x512 .bf16} (hs : src = slotM s) (hd : dst = slotM s')
    {qS qV : DmaSem sig} (hS : qS = sS x) (hV : qV = sV x)
    {hsc : (dst : Memref sig (Dev.tc n : Thread nD τ).2.kind .vmem S256x512 .bf16).view.ref.isScScratch = false}
    {hsrc : src.view.WordExact} {hdst : dst.view.WordExact}
    {hsem : DmaTarget.Typed .vmem (.dma qV) (.remote (Dev.tc n : Thread nD τ) dst (.dma qS) hsc)}
    {α : Type} {Q : α → sProp 𝕄} {k : PUnit → Prog (TpuEff nD τ sig (Elt F) Λ₀ .tc) α} :
    iprop(records m K ∗ slotPts fullShare c s (full m c) ∗ anySlot t s' ∗ ow c (due c l') ∗ sendRes x c)
      ⊢ iprop(((slotPts fullShare.left c s (full m c) ∗ sentRes x c ∗ ow c (due c l)) -∗ Wp c (k ⟨⟩) Q)
          -∗ Wp c (.op (.enqueueDma src (.remote (Dev.tc n : Thread nD τ) dst (.dma qS) hsc) (.dma qV) hsrc hdst hsem) k) Q) := by
  subst hl hn hs hd hS hV ht hs₁ hs₂
  unfold anySlot ow sendRes sentRes
  iintro ⟨#HR, Hs, ⟨%fd, Hd⟩, ⟨%W, HO⟩, HtS, HtV, Hat⟩ Hk
  ihave Hs2 := (slot_halves c (srcSl x) (full m c)).1 $$ Hs
  icases Hs2 with ⟨HsL, HsR⟩
  iapply (show _ ⊢ _ from Rounds.wp_send_pointsTo 𝒱₀ ER (relayRd m) (c : Thread nD τ) none (c' := (tgt x c : Thread nD τ))
    (src := slotM (srcSl x)) (dst := slotM (dstSl x)) (hsc := hsc) (sS := .dma (sS x)) (sem := .dma (sV x)) (hsrc := hsrc) (hdst := hdst) (hsem := hsem)
    (q := fullShare.right) (fs := full m c) (fd := fd)
    (κ₁ := K (c, .inr (.inl x))) (κ₂ := K (tgt x c, .inr (.inr x))) (r₁ := 0) (r₂ := 0) (d₁ := false) (d₂ := false)
    (by rw [duties_s]; exact Finset.mem_singleton_self _) (by rw [duties_v]; exact Finset.mem_singleton_self _)
    () () N rfl rfl rfl (due c l) rfl (W := W)
    (by rw [payload_s]; unfold slotPts; rw [slotM_set])
    (by rw [payload_v]; unfold slotPts; rw [slotM_set]; exact Entails.of_eq (pointsTo_congr (hop_fills m c x fd)))) $$ [HsR Hd HO HtS HtV]
  · isplitr; · iapply (inv_at m K (c, .inr (.inl x))); iexact HR
    isplitr; · iapply (inv_at m K (tgt x c, .inr (.inr x))); iexact HR
    isplitl [HsR]; · rw [slotM_set]; unfold slotPts; iexact HsR
    isplitl [Hd]; · rw [slotM_set]; unfold slotPts; iexact Hd
    isplitl [HO]; · iexact HO
    isplitl [HtS]; · iexact HtS
    isplitr; · iapply (reached_at m K (c, .inr (.inl x))); iexact HR
    isplitl [HtV]; · iexact HtV
    iapply (reached_at m K (tgt x c, .inr (.inr x))); iexact HR
  iintro ⟨Hc, HO⟩
  iapply Hk
  isplitl [HsL]; · iexact HsL
  isplitl [Hc Hat]
  · isplitl [Hc]; · iexact Hc
    iexact Hat
  iexists W; iexact HO

/-- A wait on one of the twenty-four transfer cells: the cell closes at zero and gives what was handed over. -/
theorem wp_wait_dma (c : Dev nD) (q : DmaSem sig) (hq : 6 ≤ q.val) (κ : ℕ) (O : CellTallies nD τ sig Unit)
    {src dst : Memref sig .tc .vmem S256x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (relayRd m) κ ((c : Thread nD τ), .dma q) ∗ cred (tallyAt ((c : Thread nD τ), SemLoc.dma q) () N) ∗ ow c O
        ∗ MayWait (c : Thread nD τ) (.dma q) () O ∗ atPos ER ((c : Thread nD τ), .dma q) 0 ∅ 0)
      ⊢ iprop(((ow c O ∗ semVal ((c : Thread nD τ), .dma q) 0 ∗ (relayRd (F := F) m).payload ((c : Thread nD τ), .dma q) 0 false) -∗ Wp c (k ⟨⟩) Q)
          -∗ Wp c (.op (.waitDma2 q src dst hsrc hdst) k) Q) := by
  unfold ow
  iintro ⟨#HI, Hc, ⟨%W, HO⟩, HM, Hat⟩ Hk
  iapply (Rounds.wp_wait_rest_token 𝒱₀ ER (relayRd m) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma m c q hq])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (relayRd m) (Set.mem_univ κ) (fun h => h) (R := 0 + 1) (duties_later m ((c : Thread nD τ), .dma q))) $$ [Hat] with Hz
  · isplitr; · iexact HI
    iexact Hat
  iapply Hk
  isplitl [HO]; · iexists _; iexact HO
  isplitl [Hz]; · iexact Hz
  iapply (Entails.of_eq (rest_dma m c q hq)); iexact Hpay

/-- WAITING for the transfer `x` received: the filled slot. -/
theorem wp_wait_recv (x : Xf) (l : List Xf) (hl : ∀ y ∈ l, x.2.1.val < y.2.1.val) (s s' : Sl) (hs : dstSl x = s') (c : Dev nD)
    {q : DmaSem sig} (hq : q = sV x) {hsrc : (slotM s).view.WordExact} {hdst : (slotM s').view.WordExact} {α : Type} {Q : α → sProp 𝕄} {k : PUnit → Prog (TpuEff nD τ sig (Elt F) Λ₀ .tc) α} :
    iprop(records m K ∗ levAts L lv ∗ recvRes x c ∗ ow c (due c l))
      ⊢ iprop(((slotPts fullShare c s' (full m c) ∗ semVal (vCell x c) 0 ∗ ow c (due c l)) -∗ Wp c (k ⟨⟩) Q)
          -∗ Wp c (.op (.waitDma2 q (slotM s) (slotM s') hsrc hdst) k) Q) := by
  subst hq hs
  unfold recvRes
  iintro ⟨#HR, #HL, ⟨Hc, Hat⟩, HO⟩ Hk
  iapply (wp_wait_dma m c (sV x) (by show 6 ≤ 18 + num x; omega) (K (c, .inr (.inr x))) (due c l) (credit_slot _)) $$ [Hc HO Hat]
  · isplitr; · iapply (inv_at m K (c, .inr (.inr x))); iexact HR
    isplitl [Hc]; · iexact Hc
    isplitl [HO]; · iexact HO
    isplitr
    · iapply (mayWait_due c (.dma (sV x)) (2 + x.2.1.val) l (lv_v x c ()).le (fun y hy => Nat.add_lt_add_left (hl y hy) 2)); iexact HL
    iexact Hat
  iintro ⟨HO, Hz, Hp⟩
  iapply Hk
  isplitl [Hp]; · iapply (Entails.of_eq (payload_v m c x false)); iexact Hp
  isplitl [Hz] <;> iassumption

/-- WAITING for the transfer `x` sent: the source slot whole again. -/
theorem wp_wait_send (x : Xf) (s s' : Sl) (hs : srcSl x = s) (c : Dev nD)
    {q : DmaSem sig} (hq : q = sS x) {hsrc : (slotM s').view.WordExact} {hdst : (slotM s).view.WordExact} {α : Type} {Q : α → sProp 𝕄} {k : PUnit → Prog (TpuEff nD τ sig (Elt F) Λ₀ .tc) α} :
    iprop(records m K ∗ levAts L lv ∗ sentRes x c ∗ slotPts fullShare.left c s (full m c) ∗ ow c (due c (rest 12)))
      ⊢ iprop(((slotPts fullShare c s (full m c) ∗ semVal (sCell x c) 0 ∗ ow c (due c (rest 12))) -∗ Wp c (k ⟨⟩) Q)
          -∗ Wp c (.op (.waitDma2 q (slotM s') (slotM s) hsrc hdst) k) Q) := by
  subst hq hs
  unfold sentRes
  iintro ⟨#HR, #HL, ⟨Hc, Hat⟩, HsL, HO⟩ Hk
  iapply (wp_wait_dma m c (sS x) (by show 6 ≤ 6 + num x; omega) (K (c, .inr (.inl x))) (due c (rest 12)) (credit_slot _)) $$ [Hc HO Hat]
  · isplitr; · iapply (inv_at m K (c, .inr (.inl x))); iexact HR
    isplitl [Hc]; · iexact Hc
    isplitl [HO]; · iexact HO
    isplitr
    · iapply (mayWait_due c (.dma (sS x)) 0 (rest 12) (lv_low _ (by have := num_lt x; show 6 + num x < 18; omega) c ()).le (fun y hy => by cases hy)); iexact HL
    iexact Hat
  iintro ⟨HO, Hz, Hp⟩
  iapply Hk
  isplitl [Hp HsL]
  · iapply (slot_halves c (srcSl x) (full m c)).2
    isplitl [HsL]; · iexact HsL
    iapply (Entails.of_eq (payload_s m c x false)); iexact Hp
  isplitl [Hz] <;> iassumption

end Cert.KernelIdeal.Relay

end
-- ==== Proof.KernelIdeal.Body.lean ====
/-
# The body's parts

The kernel's body is printed in twenty-five parts. Each theorem here runs one part: what it needs of the device's
resources, and what it leaves and returns.
-/
module

public import proofs.«01_k».proof.Proof.KernelIdeal.Protocol

@[expose] public section

noncomputable section

namespace Cert.KernelIdeal.Relay

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-! ## Values -/

/-- What the staging buffers of the inputs hold, read as the kernel reads them. -/
abbrev in0 : FVec F S512x256 .bf16 := (Memref.whole cc0_stg0_0 : Memref sig .tc .vmem S512x256 .bf16).view.readAt (Elt F)
  (Rect.unit (s := S512x256) ![0, 0] S512x256.size inb_S512x256_S512x256_0_0).toLoadRect (iblk m c 0 t0_0)
abbrev in1 : FVec F S256x16 .bf16 := (Memref.whole cc0_stg1_0 : Memref sig .tc .vmem S256x16 .bf16).view.readAt (Elt F)
  (Rect.unit (s := S256x16) ![0, 0] S256x16.size inb_S256x16_S256x16_0_0).toLoadRect (iblk m c 1 t0_0)
abbrev in2 : IVec S512x1 32 := (Memref.whole cc0_stg2_0 : Memref sig .tc .vmem S512x1 .i32).view.readAt (Elt F)
  (Rect.unit (s := S512x1) ![0, 0] S512x1.size inb_S512x1_S512x1_0_0).toLoadRect (iblk m c 2 t0_0)
abbrev in4 : FVec F S256x512 .bf16 := (Memref.whole cc0_stg4_0 : Memref sig .tc .vmem S256x512 .bf16).view.readAt (Elt F)
  (Rect.unit (s := S256x512) ![0, 0] S256x512.size inb_S256x512_S256x512_0_0).toLoadRect (iblk m c 4 t0_0)
/-- What the kernel reads of a slot once it is filled. -/
abbrev sv (s : Sl) : FVec F S1x1x1x256x512 .bf16 := (Memref.whole cc0_scratch0 : Memref sig .tc .vmem S2x4x2x256x512 .bf16).view.readAt (Elt F)
  (slotR s).toLoadRect (full m c)

/-- The device's position as the kernel computes it. -/
abbrev myW : BitVec 32 := Scalar.remsi (Scalar.divsi (Dev.word c) 1#32) 4#32

/-! ## Resources, by name -/

/-- A staging buffer of an input. -/
abbrev st0 : sProp 𝕄 := ((c : Thread nD τ).loc cc0_stg0_0) ↦{fullShare} (iblk m c 0 t0_0)
abbrev st1 : sProp 𝕄 := ((c : Thread nD τ).loc cc0_stg1_0) ↦{fullShare} (iblk m c 1 t0_0)
abbrev st2 : sProp 𝕄 := ((c : Thread nD τ).loc cc0_stg2_0) ↦{fullShare} (iblk m c 2 t0_0)
abbrev st3 : sProp 𝕄 := ((c : Thread nD τ).loc cc0_stg3_0) ↦{fullShare} (iblk m c 3 t0_0)
abbrev st4 : sProp 𝕄 := ((c : Thread nD τ).loc cc0_stg4_0) ↦{fullShare} (iblk m c 4 t0_0)
/-- A filled slot held whole; its left half share only. -/
abbrev fs (d : Fin 2) (h : Fin 4) (j : Fin 2) : sProp 𝕄 := slotPts fullShare c (d, h, j) (full m c)
abbrev ls (d : Fin 2) (h : Fin 4) (j : Fin 2) : sProp 𝕄 := slotPts fullShare.left c (d, h, j) (full m c)

/-- A function of the body's buffers at the kernel's. -/
abbrev onBufs {β : Type 1} (p : ∀ (arg0 : Memref sig .tc .vmem S512x256 .bf16) (_ : arg0.IsWhole) (arg1 : Memref sig .tc .vmem S256x16 .bf16) (_ : arg1.IsWhole)
    (arg2 : Memref sig .tc .vmem S512x1 .i32) (_ : arg2.IsWhole) (arg3 : Memref sig .tc .vmem S4x256x512 .bf16) (_ : arg3.IsWhole)
    (arg4 : Memref sig .tc .vmem S256x512 .bf16) (_ : arg4.IsWhole) (arg5 : Memref sig .tc .vmem S512x512 .f32) (_ : arg5.IsWhole)
    (arg6 : Memref sig .tc .vmem S2x4x2x256x512 .bf16) (_ : arg6.IsWhole) (arg7 arg8 : DmaSems sig S2x3x2), β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) cc0_scratch1 cc0_scratch2

/-! ## A device's own slots -/

/-- The two slots of one direction that a device fills itself, as one block. -/
theorem own_block (d : Fin 2) (f : S2x4x2x256x512.Idx → Elt F .bf16) :
    (((c : Thread nD τ).loc cc0_scratch0) ↦[(ownR d).set]{fullShare} f : sProp 𝕄)
      ⊣⊢ iprop(slotPts fullShare c (d, 0, 0) f ∗ slotPts fullShare c (d, 0, 1) f) := by
  unfold slotPts
  rw [ownR_set]
  exact pointsTo_union (slot_disj _ _ (fun h => absurd (congrArg (fun s : Sl => s.2.2.val) h) Nat.zero_ne_one))

abbrev own (d : Fin 2) : sProp 𝕄 := iprop(∃ f, ((c : Thread nD τ).loc cc0_scratch0) ↦[(ownR d).set]{fullShare} f)

/-- The dead LOAD of that block. -/
theorem wp_own_load (d : Fin 2)
    {hl : (Memref.whole cc0_scratch0 : Memref sig .tc .vmem S2x4x2x256x512 .bf16).view.LoadsAt (ownR d).toLoadRect}
    {α : Type} {Q : α → sProp 𝕄} {k : ((ownR d).toLoadRect.shape.Idx → Elt F .bf16) → Prog (TpuEff nD τ sig (Elt F) Λ₀ .tc) α} :
    own c d ⊢ iprop((∀ v, own c d -∗ Wp c (k v) Q) -∗ Wp c (.op (.load (Memref.whole cc0_scratch0) (ownR d).toLoadRect hl) k) Q) := by
  iintro ⟨%f, H⟩ Hk
  iapply (wp_load 𝒱₀ (c : Thread nD τ) none Set.univ (m := (Memref.whole cc0_scratch0 : Memref sig .tc .vmem S2x4x2x256x512 .bf16)) (S := (ownR d).set)
    (q := fullShare) (f := f) (by intro i hi; obtain ⟨p, hp, rfl⟩ := Finset.mem_map.mp hi; exact hp)) $$ H
  iintro H
  iapply Hk
  iexists f; iexact H

/-- The STORE that fills it. -/
theorem wp_own_store (d : Fin 2) {w : S1x1x2x256x512.Idx → Elt F .bf16} (hw : ∀ q, w q = wtwo m c d (ix3 (q 2) (q 3) (q 4)))
    {hx : ((Memref.whole cc0_scratch0 : Memref sig .tc .vmem S2x4x2x256x512 .bf16).access (ownR d)).Stores Finset.univ}
    {hm : Finset.univ = Finset.univ ∨ ∀ a, (ownR d).stride a = 1}
    {α : Type} {Q : α → sProp 𝕄} {k : PUnit → Prog (TpuEff nD τ sig (Elt F) Λ₀ .tc) α} :
    own c d ⊢ iprop(((fs m c d 0 0 ∗ fs m c d 0 1) -∗ Wp c (k ⟨⟩) Q)
      -∗ Wp c (.op (.store (Memref.whole cc0_scratch0) (ownR d) w Finset.univ hx hm) k) Q) := by
  iintro ⟨%f, H⟩ Hk
  iapply (wp_store 𝒱₀ (c : Thread nD τ) none Set.univ (m := (Memref.whole cc0_scratch0 : Memref sig .tc .vmem S2x4x2x256x512 .bf16)) (r := ownR d)
    (w := w) (Mk := Finset.univ) (S := (ownR d).set) (f := f) (by rw [← Rect.map_emb_univ]; exact fun i hi => hi)) $$ H
  iintro H
  iapply Hk
  iapply (own_block c d (full m c)).1
  iapply (Entails.of_eq (pointsTo_congr (own_fills m c d f w hw)))
  iexact H

theorem Wp_ret {α : Type} (a : α) (Q : α → sProp 𝕄) : Q a ⊢ Wp (F := F) c (.ret a) Q := le_wp_ret _ _ _ _ _

theorem bar_sem : (SemArray.scalar (sig.barrier 0 rfl) : Sems sig S_).sem = barrier0 := rfl

/-! ## The parts -/

/-- Part 1: both neighbours are told that their slots here may be filled; the device fills its own. -/
theorem part1 (Q : _ → sProp 𝕄) :
    iprop(records m K ∗ six c 0 ∗ six c 1 ∗ dutyTok ER (barCell (prv c)) 0 true ∗ dutyTok ER (barCell (nxt c)) 0 false
        ∗ st3 m c ∗ st0 m c ∗ own c 0 ∗ own c 1 ∗ ow c (O₀ c))
      ⊢ iprop(((fs m c 0 0 0 ∗ fs m c 0 0 1 ∗ fs m c 1 0 0 ∗ fs m c 1 0 1 ∗ st3 m c ∗ st0 m c ∗ ow c (due c (rest 0)))
            -∗ Q ⟨c, myW c, Scalar.remsi (Scalar.addi (myW c) 3#32) 4#32, Scalar.remsi (Scalar.addi (myW c) 1#32) 4#32, SemArray.scalar (sig.barrier 0 rfl), k0_pay3 (in0 m c)⟩)
          -∗ Wp c (onBufs (k0_part1 (F := F))) Q) := by
  simp only [onBufs, k0_part1_eq_skeleton]; unfold k0_part1_skel
  simp only [semSignalWord, semWaitWord, Prog.lift, Prog.bind_op, Prog.bind_ret, Prog.pure_eq_ret, Prog.bind_assoc, wp_deviceId]
  unfold ow O₀ O₁
  iintro ⟨#HR, H60, H61, Ht, Ht', H3, H0, Ho, Ho', ⟨%W, HO⟩⟩ Hk
  simp only [show (⟨k0_dev1 c, k0_dev1_lt c⟩ : Dev nD) = prv c from Fin.ext (k0_dev1_eq c), show (⟨k0_dev2 c, k0_dev2_lt c⟩ : Dev nD) = nxt c from Fin.ext (k0_dev2_eq c)]
  iapply (Rounds.wp_signal 𝒱₀ ER (relayRd m) (c : Thread nD τ) none (dst := (prv c : Thread nD τ)) (κ := K (prv c, .inl ()))
      (d := true) (by rw [duties_bar]; exact Finset.mem_univ _) ((show (relayRd m).amount (barCell (prv c)) 0 true = 1 from rfl).trans (by decide)) () (O₁ c) rfl)
    $$ [HO Ht H60]
  · isplitr; · iapply (inv_at m K (prv c, .inl ())); iexact HR
    isplitl [HO]; · iexact HO
    isplitl [Ht]; · iexact Ht
    isplitl [H60]; · rw [payload_true, nxt_prv]; iexact H60
    iapply (reached_at m K (prv c, .inl ())); iexact HR
  iintro HO
  iapply (Rounds.wp_signal 𝒱₀ ER (relayRd m) (c : Thread nD τ) none (dst := (nxt c : Thread nD τ)) (κ := K (nxt c, .inl ()))
      (d := false) (by rw [duties_bar]; exact Finset.mem_univ _) ((show (relayRd m).amount (barCell (nxt c)) 0 false = 1 from rfl).trans (by decide)) () (due c (rest 0)) rfl)
    $$ [HO Ht' H61]
  · isplitr; · iapply (inv_at m K (nxt c, .inl ())); iexact HR
    isplitl [HO]; · iexact HO
    isplitl [Ht']; · iexact Ht'
    isplitl [H61]; · rw [payload_false, prv_nxt]; iexact H61
    iapply (reached_at m K (nxt c, .inl ())); iexact HR
  iintro HO
  iapply (wp_buf_load c (Memref.whole cc0_stg3_0) _) $$ H3; iintro H3
  iapply (wp_own_load c 0) $$ Ho; iintro %v Ho
  iapply (wp_own_store m c 0 (fun q => (pay_apply _ q).1)) $$ Ho; iintro ⟨Hs00, Hs01⟩
  iapply (wp_buf_load c (Memref.whole cc0_stg3_0) _) $$ H3; iintro H3
  iapply (wp_own_load c 1) $$ Ho'; iintro %v' Ho'
  iapply (wp_own_store m c 1 (fun q => (pay_apply _ q).2)) $$ Ho'; iintro ⟨Hs10, Hs11⟩
  iapply (wp_buf_load c (Memref.whole cc0_stg0_0) _) $$ H0; iintro H0
  iapply (Wp_ret c)
  iapply Hk
  iframe
  iexists W; iexact HO

/-- Part 2: the inputs of the routing are read; the device waits until its neighbours' slots are its to fill. -/
theorem part2 (v6 : BitVec 32) (v23 : FVec F S512x256 .bf16) (Q : _ → sProp 𝕄) :
    iprop(records m K ∗ levAts L lv ∗ st1 m c ∗ st2 m c ∗ cred (tallyAt (barCell c) () 2) ∗ atPos ER (barCell c) 0 ∅ 0 ∗ ow c (due c (rest 0)))
      ⊢ iprop(((st1 m c ∗ st2 m c ∗ six (prv c) 1 ∗ six (nxt c) 0 ∗ semVal (barCell c) 0 ∗ ow c (due c (rest 0))) -∗ Q (k0_pay4 v23 (in1 m c) (in2 m c)))
          -∗ Wp c ((onBufs (k0_part2 (F := F))) v6 (SemArray.scalar (sig.barrier 0 rfl)) v23) Q) := by
  simp only [onBufs, k0_part2_eq_skeleton]; unfold k0_part2_skel
  simp only [semSignalWord, semWaitWord, Prog.lift, Prog.bind_op, Prog.bind_ret, Prog.pure_eq_ret, Prog.bind_assoc, bar_sem]
  unfold ow
  iintro ⟨#HR, #HL, H1, H2, Hc, Hat, ⟨%W, HO⟩⟩ Hk
  iapply (wp_buf_load c (Memref.whole cc0_stg1_0) _) $$ H1; iintro H1
  iapply (wp_buf_load c (Memref.whole cc0_stg2_0) _) $$ H2; iintro H2
  iapply (Rounds.wp_wait_rest_token 𝒱₀ ER (relayRd m) (c : Thread nD τ) none (κ := K (c, .inl ()))
      (wpE_semWait_eq 𝒱₀ (c : Thread nD τ) none Set.univ) (Set.mem_univ _) () (O := due c (rest 0)) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_due c (.reg barrier0) 1 (rest 0) (le_refl 1) (by decide)); iexact HL
    iexact Hat
  iintro ⟨HO, Hat, -, Hpay⟩
  ihave Hp := (Entails.of_eq (rest_bar m c)) $$ Hpay
  icases Hp with ⟨Hp1, Hp0⟩
  imod (Rounds.cell_close ER (relayRd m) (Set.mem_univ (K (c, .inl ()))) (fun h => h) (R := 0 + 1) (duties_later m (barCell c))) $$ [Hat] with Hz
  · isplitr; · iapply (inv_at m K (c, .inl ())); iexact HR
    iexact Hat
  iapply (Wp_ret c)
  iapply Hk
  iframe
  iexists _; iexact HO

/-- Part 3: the device's own slots go right. -/
theorem part3 (v4 v6 : BitVec 32) (Q : PUnit → sProp 𝕄) :
    iprop(records m K ∗ fs m c 0 0 0 ∗ fs m c 0 0 1 ∗ anySlot (nxt c) (0, 1, 0) ∗ anySlot (nxt c) (0, 1, 1)
        ∗ sendRes (0, 0, 0) c ∗ sendRes (0, 0, 1) c ∗ ow c (due c (rest 0)))
      ⊢ iprop(((ls m c 0 0 0 ∗ ls m c 0 0 1 ∗ sentRes (0, 0, 0) c ∗ sentRes (0, 0, 1) c ∗ ow c (due c (rest 2))) -∗ Q ⟨⟩)
          -∗ Wp c ((onBufs (k0_part3 (F := F))) c v4 v6) Q) := by
  simp only [onBufs, k0_part3_eq_skeleton]; unfold k0_part3_skel
  simp only [Prog.lift, Prog.bind_op, Prog.bind_ret, Prog.pure_eq_ret]
  iintro ⟨#HR, Hs, Hs', Hd, Hd', Hx, Hx', HO⟩ Hk
  iapply (wp_hop m K (0, 0, 0) (0, 0, 0) (0, 1, 0) rfl rfl (rest 0) (rest 1) rfl c (nxt c) rfl _ (Fin.ext (k0_dev3_eq c)) rfl rfl rfl rfl) $$ [Hs Hd HO Hx]
  · iframe; iexact HR
  iintro ⟨Hs, Hx, HO⟩
  iapply (wp_hop m K (0, 0, 1) (0, 0, 1) (0, 1, 1) rfl rfl (rest 1) (rest 2) rfl c (nxt c) rfl _ (Fin.ext (k0_dev4_eq c)) rfl rfl rfl rfl) $$ [Hs' Hd' HO Hx']
  · iframe; iexact HR
  iintro ⟨Hs', Hx', HO⟩
  iapply (Wp_ret c)
  iapply Hk
  iframe

/-- Part 4: and left; the shared weights are read. -/
theorem part4 (v2 v4 : BitVec 32) (v23 v48 : FVec F S512x256 .bf16) (Q : _ → sProp 𝕄) :
    iprop(records m K ∗ fs m c 1 0 0 ∗ fs m c 1 0 1 ∗ anySlot (prv c) (1, 1, 0) ∗ anySlot (prv c) (1, 1, 1)
        ∗ sendRes (1, 0, 0) c ∗ sendRes (1, 0, 1) c ∗ st4 m c ∗ st2 m c ∗ ow c (due c (rest 2)))
      ⊢ iprop(((ls m c 1 0 0 ∗ ls m c 1 0 1 ∗ sentRes (1, 0, 0) c ∗ sentRes (1, 0, 1) c ∗ st4 m c ∗ st2 m c ∗ ow c (due c (rest 4)))
            -∗ Q ⟨k0_pay5 v23 (in4 m c), k0_pay6 v2 v48 (in2 m c)⟩)
          -∗ Wp c ((onBufs (k0_part4 (F := F))) c v2 v4 v23 v48) Q) := by
  simp only [onBufs, k0_part4_eq_skeleton]; unfold k0_part4_skel
  simp only [Prog.lift, Prog.bind_op, Prog.bind_ret, Prog.pure_eq_ret]
  iintro ⟨#HR, Hs, Hs', Hd, Hd', Hx, Hx', H4, H2, HO⟩ Hk
  iapply (wp_hop m K (1, 0, 0) (1, 0, 0) (1, 1, 0) rfl rfl (rest 2) (rest 3) rfl c (prv c) rfl _ (Fin.ext (k0_dev5_eq c)) rfl rfl rfl rfl) $$ [Hs Hd HO Hx]
  · iframe; iexact HR
  iintro ⟨Hs, Hx, HO⟩
  iapply (wp_hop m K (1, 0, 1) (1, 0, 1) (1, 1, 1) rfl rfl (rest 3) (rest 4) rfl c (prv c) rfl _ (Fin.ext (k0_dev6_eq c)) rfl rfl rfl rfl) $$ [Hs' Hd' HO Hx']
  · iframe; iexact HR
  iintro ⟨Hs', Hx', HO⟩
  iapply (wp_buf_load c (Memref.whole cc0_stg4_0) _) $$ H4; iintro H4
  iapply (wp_buf_load c (Memref.whole cc0_stg2_0) _) $$ H2; iintro H2
  iapply (Wp_ret c)
  iapply Hk
  iframe

/-- Part 5: three of the own slots are read. -/
theorem part5 (v2 : BitVec 32) (v48 : FVec F S512x256 .bf16) (v91 : FVec F S512x512 .f32) (v102 : FVec F S512x256 .bf16) (Q : _ → sProp 𝕄) :
    iprop(ls m c 0 0 0 ∗ ls m c 0 0 1 ∗ ls m c 1 0 0 ∗ st2 m c)
      ⊢ iprop(((ls m c 0 0 0 ∗ ls m c 0 0 1 ∗ ls m c 1 0 0 ∗ st2 m c)
            -∗ Q ⟨k0_pay7 v2 v48 v91 v102 (sv m c (0, 0, 0)) (in2 m c) (sv m c (0, 0, 1)) (in2 m c) (sv m c (1, 0, 0)), 4#32⟩)
          -∗ Wp c ((onBufs (k0_part5 (F := F))) v2 v48 v91 v102) Q) := by
  simp only [onBufs, k0_part5_eq_skeleton]; unfold k0_part5_skel
  simp only [Prog.lift, Prog.bind_op, Prog.bind_ret, Prog.pure_eq_ret]
  iintro ⟨Hs, Hs', Hs'', H2⟩ Hk
  iapply (wp_slot_load _ c (0, 0, 0) _ rfl) $$ Hs; iintro Hs
  iapply (wp_buf_load c (Memref.whole cc0_stg2_0) _) $$ H2; iintro H2
  iapply (wp_slot_load _ c (0, 0, 1) _ rfl) $$ Hs'; iintro Hs'
  iapply (wp_buf_load c (Memref.whole cc0_stg2_0) _) $$ H2; iintro H2
  iapply (wp_slot_load _ c (1, 0, 0) _ rfl) $$ Hs''; iintro Hs''
  iapply (Wp_ret c)
  iapply Hk
  iframe

/-- Part 6: the fourth; the first slot arrives from the left. -/
theorem part6 (v2 v6 : BitVec 32) (v48 : FVec F S512x256 .bf16) (v136 : FVec F S512x512 .f32) (w : BitVec 32) (Q : _ → sProp 𝕄) :
    iprop(records m K ∗ levAts L lv ∗ st2 m c ∗ ls m c 1 0 1 ∗ recvRes (0, 0, 0) c ∗ ow c (due c (rest 4)))
      ⊢ iprop(((st2 m c ∗ ls m c 1 0 1 ∗ fs m c 0 1 0 ∗ semVal (vCell (0, 0, 0) c) 0 ∗ ow c (due c (rest 4)))
            -∗ Q (k0_pay8 v2 v48 v136 w (in2 m c) (sv m c (1, 0, 1))))
          -∗ Wp c ((onBufs (k0_part6 (F := F))) v2 v6 v48 v136 w) Q) := by
  simp only [onBufs, k0_part6_eq_skeleton]; unfold k0_part6_skel
  simp only [Prog.lift, Prog.bind_op, Prog.bind_ret, Prog.pure_eq_ret]
  iintro ⟨#HR, #HL, H2, Hs, Hr, HO⟩ Hk
  iapply (wp_buf_load c (Memref.whole cc0_stg2_0) _) $$ H2; iintro H2
  iapply (wp_slot_load _ c (1, 0, 1) _ rfl) $$ Hs; iintro Hs
  iapply (wp_wait_recv m K (0, 0, 0) (rest 4) (by decide) (0, 0, 0) (0, 1, 0) rfl c rfl) $$ [Hr HO]
  · iframe; isplitr <;> iassumption
  iintro ⟨Hs', Hz, HO⟩
  iapply (Wp_ret c)
  iapply Hk
  iframe

/-- Part 7: the first slot from the left goes on; the second arrives. -/
theorem part7 (v6 : BitVec 32) (Q : PUnit → sProp 𝕄) :
    iprop(records m K ∗ levAts L lv ∗ fs m c 0 1 0 ∗ anySlot (nxt c) (0, 2, 0) ∗ sendRes (0, 1, 0) c ∗ recvRes (0, 0, 1) c ∗ ow c (due c (rest 4)))
      ⊢ iprop(((ls m c 0 1 0 ∗ sentRes (0, 1, 0) c ∗ fs m c 0 1 1 ∗ semVal (vCell (0, 0, 1) c) 0 ∗ ow c (due c (rest 5))) -∗ Q ⟨⟩)
          -∗ Wp c ((onBufs (k0_part7 (F := F))) c v6) Q) := by
  simp only [onBufs, k0_part7_eq_skeleton]; unfold k0_part7_skel
  simp only [Prog.lift, Prog.bind_op, Prog.bind_ret, Prog.pure_eq_ret]
  iintro ⟨#HR, #HL, Hs, Hd, Hx, Hr, HO⟩ Hk
  iapply (wp_hop m K (0, 1, 0) (0, 1, 0) (0, 2, 0) rfl rfl (rest 4) (rest 5) rfl c (nxt c) rfl _ (Fin.ext (k0_dev7_eq c)) rfl rfl rfl rfl) $$ [Hs Hd HO Hx]
  · iframe; iexact HR
  iintro ⟨Hs, Hx, HO⟩
  iapply (wp_wait_recv m K (0, 0, 1) (rest 5) (by decide) (0, 0, 1) (0, 1, 1) rfl c rfl) $$ [Hr HO]
  · iframe; isplitr <;> iassumption
  iintro ⟨Hs', Hz, HO⟩
  iapply (Wp_ret c)
  iapply Hk
  iframe

/-- Part 8: the second goes on; the first slot from the right arrives. -/
theorem part8 (v4 v6 : BitVec 32) (Q : _ → sProp 𝕄) :
    iprop(records m K ∗ levAts L lv ∗ fs m c 0 1 1 ∗ anySlot (nxt c) (0, 2, 1) ∗ sendRes (0, 1, 1) c ∗ recvRes (1, 0, 0) c ∗ ow c (due c (rest 5)))
      ⊢ iprop(((ls m c 0 1 1 ∗ sentRes (0, 1, 1) c ∗ fs m c 1 1 0 ∗ semVal (vCell (1, 0, 0) c) 0 ∗ ow c (due c (rest 6))) -∗ Q ⟨Scalar.muli v4 1#32, 0#32⟩)
          -∗ Wp c ((onBufs (k0_part8 (F := F))) c v4 v6) Q) := by
  simp only [onBufs, k0_part8_eq_skeleton]; unfold k0_part8_skel
  simp only [Prog.lift, Prog.bind_op, Prog.bind_ret, Prog.pure_eq_ret]
  iintro ⟨#HR, #HL, Hs, Hd, Hx, Hr, HO⟩ Hk
  iapply (wp_hop m K (0, 1, 1) (0, 1, 1) (0, 2, 1) rfl rfl (rest 5) (rest 6) rfl c (nxt c) rfl _ (Fin.ext (k0_dev8_eq c)) rfl rfl rfl rfl) $$ [Hs Hd HO Hx]
  · iframe; iexact HR
  iintro ⟨Hs, Hx, HO⟩
  iapply (wp_wait_recv m K (1, 0, 0) (rest 6) (by decide) (1, 0, 0) (1, 1, 0) rfl c rfl) $$ [Hr HO]
  · iframe; isplitr <;> iassumption
  iintro ⟨Hs', Hz, HO⟩
  iapply (Wp_ret c)
  iapply Hk
  iframe

/-- Part 9: that one goes on; the second from the right arrives. -/
theorem part9 (v4 v196 w : BitVec 32) (Q : PUnit → sProp 𝕄) :
    iprop(records m K ∗ levAts L lv ∗ fs m c 1 1 0 ∗ anySlot (prv c) (1, 2, 0) ∗ sendRes (1, 1, 0) c ∗ recvRes (1, 0, 1) c ∗ ow c (due c (rest 6)))
      ⊢ iprop(((ls m c 1 1 0 ∗ sentRes (1, 1, 0) c ∗ fs m c 1 1 1 ∗ semVal (vCell (1, 0, 1) c) 0 ∗ ow c (due c (rest 7))) -∗ Q ⟨⟩)
          -∗ Wp c ((onBufs (k0_part9 (F := F))) c v4 v196 w) Q) := by
  simp only [onBufs, k0_part9_eq_skeleton]; unfold k0_part9_skel
  simp only [Prog.lift, Prog.bind_op, Prog.bind_ret, Prog.pure_eq_ret]
  iintro ⟨#HR, #HL, Hs, Hd, Hx, Hr, HO⟩ Hk
  iapply (wp_hop m K (1, 1, 0) (1, 1, 0) (1, 2, 0) rfl rfl (rest 6) (rest 7) rfl c (prv c) rfl _ (Fin.ext (k0_dev9_eq c)) rfl rfl rfl rfl) $$ [Hs Hd HO Hx]
  · iframe; iexact HR
  iintro ⟨Hs, Hx, HO⟩
  iapply (wp_wait_recv m K (1, 0, 1) (rest 7) (by decide) (1, 0, 1) (1, 1, 1) rfl c rfl) $$ [Hr HO]
  · iframe; isplitr <;> iassumption
  iintro ⟨Hs', Hz, HO⟩
  iapply (Wp_ret c)
  iapply Hk
  iframe

/-- Part 10: that one goes on; the first slot of the second origin is read. -/
theorem part10 (v2 : BitVec 32) (v48 : FVec F S512x256 .bf16) (v151 : FVec F S512x512 .f32) (Q : _ → sProp 𝕄) :
    iprop(records m K ∗ fs m c 1 1 1 ∗ anySlot (prv c) (1, 2, 1) ∗ sendRes (1, 1, 1) c ∗ st2 m c ∗ ls m c 0 1 0 ∗ ow c (due c (rest 7)))
      ⊢ iprop(((ls m c 1 1 1 ∗ sentRes (1, 1, 1) c ∗ st2 m c ∗ ls m c 0 1 0 ∗ ow c (due c (rest 8)))
            -∗ Q ⟨k0_pay9 v2 v48 v151 (in2 m c) (sv m c (0, 1, 0)), k0_pay10 v2 v48 (in2 m c)⟩)
          -∗ Wp c ((onBufs (k0_part10 (F := F))) c v2 v48 v151) Q) := by
  simp only [onBufs, k0_part10_eq_skeleton]; unfold k0_part10_skel
  simp only [Prog.lift, Prog.bind_op, Prog.bind_ret, Prog.pure_eq_ret]
  iintro ⟨#HR, Hs, Hd, Hx, H2, Hr, HO⟩ Hk
  iapply (wp_hop m K (1, 1, 1) (1, 1, 1) (1, 2, 1) rfl rfl (rest 7) (rest 8) rfl c (prv c) rfl _ (Fin.ext (k0_dev10_eq c)) rfl rfl rfl rfl) $$ [Hs Hd HO Hx]
  · iframe; iexact HR
  iintro ⟨Hs, Hx, HO⟩
  iapply (wp_buf_load c (Memref.whole cc0_stg2_0) _) $$ H2; iintro H2
  iapply (wp_slot_load _ c (0, 1, 0) _ rfl) $$ Hr; iintro Hr
  iapply (wp_buf_load c (Memref.whole cc0_stg2_0) _) $$ H2; iintro H2
  iapply (Wp_ret c)
  iapply Hk
  iframe

/-- Part 11: two more slots are read. -/
theorem part11 (v2 : BitVec 32) (v48 : FVec F S512x256 .bf16) (v240 : FVec F S512x512 .f32) (v251 : FVec F S512x256 .bf16) (Q : _ → sProp 𝕄) :
    iprop(ls m c 0 1 1 ∗ ls m c 1 1 0 ∗ st2 m c)
      ⊢ iprop(((ls m c 0 1 1 ∗ ls m c 1 1 0 ∗ st2 m c)
            -∗ Q ⟨k0_pay11 v2 v48 v240 v251 (sv m c (0, 1, 1)) (in2 m c) (sv m c (1, 1, 0)), k0_pay12 v2 v48 (in2 m c)⟩)
          -∗ Wp c ((onBufs (k0_part11 (F := F))) v2 v48 v240 v251) Q) := by
  simp only [onBufs, k0_part11_eq_skeleton]; unfold k0_part11_skel
  simp only [Prog.lift, Prog.bind_op, Prog.bind_ret, Prog.pure_eq_ret]
  iintro ⟨Hs, Hs', H2⟩ Hk
  iapply (wp_slot_load _ c (0, 1, 1) _ rfl) $$ Hs; iintro Hs
  iapply (wp_buf_load c (Memref.whole cc0_stg2_0) _) $$ H2; iintro H2
  iapply (wp_slot_load _ c (1, 1, 0) _ rfl) $$ Hs'; iintro Hs'
  iapply (wp_buf_load c (Memref.whole cc0_stg2_0) _) $$ H2; iintro H2
  iapply (Wp_ret c)
  iapply Hk
  iframe

/-- Part 12: another is read; the first slot of the third origin arrives from the left. -/
theorem part12 (v6 : BitVec 32) (v272 : FVec F S512x512 .f32) (v283 : FVec F S512x256 .bf16) (Q : _ → sProp 𝕄) :
    iprop(records m K ∗ levAts L lv ∗ ls m c 1 1 1 ∗ recvRes (0, 1, 0) c ∗ ow c (due c (rest 8)))
      ⊢ iprop(((ls m c 1 1 1 ∗ fs m c 0 2 0 ∗ semVal (vCell (0, 1, 0) c) 0 ∗ ow c (due c (rest 8))) -∗ Q (k0_pay13 v272 v283 (sv m c (1, 1, 1))))
          -∗ Wp c ((onBufs (k0_part12 (F := F))) v6 v272 v283) Q) := by
  simp only [onBufs, k0_part12_eq_skeleton]; unfold k0_part12_skel
  simp only [Prog.lift, Prog.bind_op, Prog.bind_ret, Prog.pure_eq_ret]
  iintro ⟨#HR, #HL, Hs, Hr, HO⟩ Hk
  iapply (wp_slot_load _ c (1, 1, 1) _ rfl) $$ Hs; iintro Hs
  iapply (wp_wait_recv m K (0, 1, 0) (rest 8) (by decide) (0, 1, 0) (0, 2, 0) rfl c rfl) $$ [Hr HO]
  · iframe; isplitr <;> iassumption
  iintro ⟨Hs', Hz, HO⟩
  iapply (Wp_ret c)
  iapply Hk
  iframe

/-- Part 13: it goes on, the second arrives and goes on. -/
theorem part13 (v6 : BitVec 32) (Q : PUnit → sProp 𝕄) :
    iprop(records m K ∗ levAts L lv ∗ fs m c 0 2 0 ∗ anySlot (nxt c) (0, 3, 0) ∗ anySlot (nxt c) (0, 3, 1) ∗ sendRes (0, 2, 0) c ∗ sendRes (0, 2, 1) c
        ∗ recvRes (0, 1, 1) c ∗ ow c (due c (rest 8)))
      ⊢ iprop(((ls m c 0 2 0 ∗ ls m c 0 2 1 ∗ sentRes (0, 2, 0) c ∗ sentRes (0, 2, 1) c ∗ semVal (vCell (0, 1, 1) c) 0 ∗ ow c (due c (rest 10))) -∗ Q ⟨⟩)
          -∗ Wp c ((onBufs (k0_part13 (F := F))) c v6) Q) := by
  simp only [onBufs, k0_part13_eq_skeleton]; unfold k0_part13_skel
  simp only [Prog.lift, Prog.bind_op, Prog.bind_ret, Prog.pure_eq_ret]
  iintro ⟨#HR, #HL, Hs, Hd, Hd', Hx, Hx', Hr, HO⟩ Hk
  iapply (wp_hop m K (0, 2, 0) (0, 2, 0) (0, 3, 0) rfl rfl (rest 8) (rest 9) rfl c (nxt c) rfl _ (Fin.ext (k0_dev11_eq c)) rfl rfl rfl rfl) $$ [Hs Hd HO Hx]
  · iframe; iexact HR
  iintro ⟨Hs, Hx, HO⟩
  iapply (wp_wait_recv m K (0, 1, 1) (rest 9) (by decide) (0, 1, 1) (0, 2, 1) rfl c rfl) $$ [Hr HO]
  · iframe; isplitr <;> iassumption
  iintro ⟨Hs', Hz, HO⟩
  iapply (wp_hop m K (0, 2, 1) (0, 2, 1) (0, 3, 1) rfl rfl (rest 9) (rest 10) rfl c (nxt c) rfl _ (Fin.ext (k0_dev12_eq c)) rfl rfl rfl rfl) $$ [Hs' Hd' HO Hx']
  · iframe; iexact HR
  iintro ⟨Hs', Hx', HO⟩
  iapply (Wp_ret c)
  iapply Hk
  iframe

/-- Part 14: the first slot of the third origin arrives from the right and goes on. -/
theorem part14 (v4 : BitVec 32) (Q : PUnit → sProp 𝕄) :
    iprop(records m K ∗ levAts L lv ∗ recvRes (1, 1, 0) c ∗ anySlot (prv c) (1, 3, 0) ∗ sendRes (1, 2, 0) c ∗ ow c (due c (rest 10)))
      ⊢ iprop(((ls m c 1 2 0 ∗ sentRes (1, 2, 0) c ∗ semVal (vCell (1, 1, 0) c) 0 ∗ ow c (due c (rest 11))) -∗ Q ⟨⟩)
          -∗ Wp c ((onBufs (k0_part14 (F := F))) c v4) Q) := by
  simp only [onBufs, k0_part14_eq_skeleton]; unfold k0_part14_skel
  simp only [Prog.lift, Prog.bind_op, Prog.bind_ret, Prog.pure_eq_ret]
  iintro ⟨#HR, #HL, Hr, Hd, Hx, HO⟩ Hk
  iapply (wp_wait_recv m K (1, 1, 0) (rest 10) (by decide) (1, 1, 0) (1, 2, 0) rfl c rfl) $$ [Hr HO]
  · iframe; isplitr <;> iassumption
  iintro ⟨Hs, Hz, HO⟩
  iapply (wp_hop m K (1, 2, 0) (1, 2, 0) (1, 3, 0) rfl rfl (rest 10) (rest 11) rfl c (prv c) rfl _ (Fin.ext (k0_dev13_eq c)) rfl rfl rfl rfl) $$ [Hs Hd HO Hx]
  · iframe; iexact HR
  iintro ⟨Hs, Hx, HO⟩
  iapply (Wp_ret c)
  iapply Hk
  iframe

/-- Part 15: so does the second. -/
theorem part15 (v2 v4 : BitVec 32) (Q : _ → sProp 𝕄) :
    iprop(records m K ∗ levAts L lv ∗ recvRes (1, 1, 1) c ∗ anySlot (prv c) (1, 3, 1) ∗ sendRes (1, 2, 1) c ∗ ow c (due c (rest 11)))
      ⊢ iprop(((ls m c 1 2 1 ∗ sentRes (1, 2, 1) c ∗ semVal (vCell (1, 1, 1) c) 0 ∗ ow c (due c (rest 12)))
            -∗ Q ⟨Scalar.remsi (Scalar.addi v2 2#32) 4#32, Scalar.addi (Scalar.addi (Scalar.muli (Scalar.remsi (Scalar.addi v2 2#32) 4#32) 4#32) 0#32) 0#32⟩)
          -∗ Wp c ((onBufs (k0_part15 (F := F))) c v2 v4) Q) := by
  simp only [onBufs, k0_part15_eq_skeleton]; unfold k0_part15_skel
  simp only [Prog.lift, Prog.bind_op, Prog.bind_ret, Prog.pure_eq_ret]
  iintro ⟨#HR, #HL, Hr, Hd, Hx, HO⟩ Hk
  iapply (wp_wait_recv m K (1, 1, 1) (rest 11) (by decide) (1, 1, 1) (1, 2, 1) rfl c rfl) $$ [Hr HO]
  · iframe; isplitr <;> iassumption
  iintro ⟨Hs, Hz, HO⟩
  iapply (wp_hop m K (1, 2, 1) (1, 2, 1) (1, 3, 1) rfl rfl (rest 11) (rest 12) rfl c (prv c) rfl _ (Fin.ext (k0_dev14_eq c)) rfl rfl rfl rfl) $$ [Hs Hd HO Hx]
  · iframe; iexact HR
  iintro ⟨Hs, Hx, HO⟩
  iapply (Wp_ret c)
  iapply Hk
  iframe

/-- Part 16: the third origin's first two slots are read. -/
theorem part16 (v2 : BitVec 32) (v48 : FVec F S512x256 .bf16) (v287 : FVec F S512x512 .f32) (v361 v364 : BitVec 32) (Q : _ → sProp 𝕄) :
    iprop(ls m c 0 2 0 ∗ ls m c 0 2 1 ∗ st2 m c)
      ⊢ iprop(((ls m c 0 2 0 ∗ ls m c 0 2 1 ∗ st2 m c)
            -∗ Q ⟨k0_pay14 v48 v287 v361 v364 (in2 m c) (sv m c (0, 2, 0)) (in2 m c) (sv m c (0, 2, 1)), Scalar.remsi (Scalar.addi v2 2#32) 4#32,
              Scalar.addi (Scalar.addi (Scalar.muli (Scalar.remsi (Scalar.addi v2 2#32) 4#32) 4#32) 2#32) 0#32⟩)
          -∗ Wp c ((onBufs (k0_part16 (F := F))) v2 v48 v287 v361 v364) Q) := by
  simp only [onBufs, k0_part16_eq_skeleton]; unfold k0_part16_skel
  simp only [Prog.lift, Prog.bind_op, Prog.bind_ret, Prog.pure_eq_ret]
  iintro ⟨Hs, Hs', H2⟩ Hk
  iapply (wp_buf_load c (Memref.whole cc0_stg2_0) _) $$ H2; iintro H2
  iapply (wp_slot_load _ c (0, 2, 0) _ rfl) $$ Hs; iintro Hs
  iapply (wp_buf_load c (Memref.whole cc0_stg2_0) _) $$ H2; iintro H2
  iapply (wp_slot_load _ c (0, 2, 1) _ rfl) $$ Hs'; iintro Hs'
  iapply (Wp_ret c)
  iapply Hk
  iframe

/-- Part 17: and its last two. -/
theorem part17 (v6 : BitVec 32) (v48 : FVec F S512x256 .bf16) (v391 : FVec F S512x512 .f32) (v393 v396 : BitVec 32) (Q : _ → sProp 𝕄) :
    iprop(ls m c 1 2 0 ∗ ls m c 1 2 1 ∗ st2 m c)
      ⊢ iprop(((ls m c 1 2 0 ∗ ls m c 1 2 1 ∗ st2 m c)
            -∗ Q ⟨k0_pay15 v48 v391 v393 v396 (in2 m c) (sv m c (1, 2, 0)) (in2 m c) (sv m c (1, 2, 1)), Scalar.muli v6 1#32⟩)
          -∗ Wp c ((onBufs (k0_part17 (F := F))) v6 v48 v391 v393 v396) Q) := by
  simp only [onBufs, k0_part17_eq_skeleton]; unfold k0_part17_skel
  simp only [Prog.lift, Prog.bind_op, Prog.bind_ret, Prog.pure_eq_ret]
  iintro ⟨Hs, Hs', H2⟩ Hk
  iapply (wp_buf_load c (Memref.whole cc0_stg2_0) _) $$ H2; iintro H2
  iapply (wp_slot_load _ c (1, 2, 0) _ rfl) $$ Hs; iintro Hs
  iapply (wp_buf_load c (Memref.whole cc0_stg2_0) _) $$ H2; iintro H2
  iapply (wp_slot_load _ c (1, 2, 1) _ rfl) $$ Hs'; iintro Hs'
  iapply (Wp_ret c)
  iapply Hk
  iframe

/-- Part 18: the last origin's slots arrive from the left, -/
theorem part18 (v4 v6 v424 : BitVec 32) (Q : PUnit → sProp 𝕄) :
    iprop(records m K ∗ levAts L lv ∗ recvRes (0, 2, 0) c ∗ recvRes (0, 2, 1) c ∗ ow c (due c (rest 12)))
      ⊢ iprop(((fs m c 0 3 0 ∗ fs m c 0 3 1 ∗ semVal (vCell (0, 2, 0) c) 0 ∗ semVal (vCell (0, 2, 1) c) 0 ∗ ow c (due c (rest 12))) -∗ Q ⟨⟩)
          -∗ Wp c ((onBufs (k0_part18 (F := F))) v4 v6 v424) Q) := by
  simp only [onBufs, k0_part18_eq_skeleton]; unfold k0_part18_skel
  simp only [Prog.lift, Prog.bind_op, Prog.bind_ret, Prog.pure_eq_ret]
  iintro ⟨#HR, #HL, Hr, Hr', HO⟩ Hk
  iapply (wp_wait_recv m K (0, 2, 0) (rest 12) (by decide) (0, 2, 0) (0, 3, 0) rfl c rfl) $$ [Hr HO]
  · iframe; isplitr <;> iassumption
  iintro ⟨Hs, Hz, HO⟩
  iapply (wp_wait_recv m K (0, 2, 1) (rest 12) (by decide) (0, 2, 1) (0, 3, 1) rfl c rfl) $$ [Hr' HO]
  · iframe; isplitr <;> iassumption
  iintro ⟨Hs', Hz', HO⟩
  iapply (Wp_ret c)
  iapply Hk
  iframe

/-- part 19: and from the right. -/
theorem part19 (v2 v4 : BitVec 32) (v48 : FVec F S512x256 .bf16) (Q : _ → sProp 𝕄) :
    iprop(records m K ∗ levAts L lv ∗ recvRes (1, 2, 0) c ∗ recvRes (1, 2, 1) c ∗ st2 m c ∗ ow c (due c (rest 12)))
      ⊢ iprop(((fs m c 1 3 0 ∗ fs m c 1 3 1 ∗ semVal (vCell (1, 2, 0) c) 0 ∗ semVal (vCell (1, 2, 1) c) 0 ∗ st2 m c ∗ ow c (due c (rest 12)))
            -∗ Q ⟨Scalar.remsi (Scalar.addi v2 1#32) 4#32, k0_pay16 v2 v48 (in2 m c)⟩)
          -∗ Wp c ((onBufs (k0_part19 (F := F))) v2 v4 v48) Q) := by
  simp only [onBufs, k0_part19_eq_skeleton]; unfold k0_part19_skel
  simp only [Prog.lift, Prog.bind_op, Prog.bind_ret, Prog.pure_eq_ret]
  iintro ⟨#HR, #HL, Hr, Hr', H2, HO⟩ Hk
  iapply (wp_wait_recv m K (1, 2, 0) (rest 12) (by decide) (1, 2, 0) (1, 3, 0) rfl c rfl) $$ [Hr HO]
  · iframe; isplitr <;> iassumption
  iintro ⟨Hs, Hz, HO⟩
  iapply (wp_wait_recv m K (1, 2, 1) (rest 12) (by decide) (1, 2, 1) (1, 3, 1) rfl c rfl) $$ [Hr' HO]
  · iframe; isplitr <;> iassumption
  iintro ⟨Hs', Hz', HO⟩
  iapply (wp_buf_load c (Memref.whole cc0_stg2_0) _) $$ H2; iintro H2
  iapply (Wp_ret c)
  iapply Hk
  iframe

/-- Part 20: three of them are read. -/
theorem part20 (v2 : BitVec 32) (v48 : FVec F S512x256 .bf16) (v423 : FVec F S512x512 .f32) (v457 : BitVec 32) (v468 : FVec F S512x256 .bf16) (Q : _ → sProp 𝕄) :
    iprop(fs m c 0 3 0 ∗ fs m c 0 3 1 ∗ fs m c 1 3 0 ∗ st2 m c)
      ⊢ iprop(((fs m c 0 3 0 ∗ fs m c 0 3 1 ∗ fs m c 1 3 0 ∗ st2 m c)
            -∗ Q ⟨k0_pay17 v48 v423 v457 v468 (sv m c (0, 3, 0)) (in2 m c) (sv m c (0, 3, 1)), Scalar.remsi (Scalar.addi v2 3#32) 4#32,
              k0_pay18 v2 v48 (in2 m c), k0_pay19 (sv m c (1, 3, 0))⟩)
          -∗ Wp c ((onBufs (k0_part20 (F := F))) v2 v48 v423 v457 v468) Q) := by
  simp only [onBufs, k0_part20_eq_skeleton]; unfold k0_part20_skel
  simp only [Prog.lift, Prog.bind_op, Prog.bind_ret, Prog.pure_eq_ret]
  iintro ⟨Hs, Hs', Hs'', H2⟩ Hk
  iapply (wp_slot_load _ c (0, 3, 0) _ rfl) $$ Hs; iintro Hs
  iapply (wp_buf_load c (Memref.whole cc0_stg2_0) _) $$ H2; iintro H2
  iapply (wp_slot_load _ c (0, 3, 1) _ rfl) $$ Hs'; iintro Hs'
  iapply (wp_buf_load c (Memref.whole cc0_stg2_0) _) $$ H2; iintro H2
  iapply (wp_slot_load _ c (1, 3, 0) _ rfl) $$ Hs''; iintro Hs''
  iapply (Wp_ret c)
  iapply Hk
  iframe

/-- Part 21: the last one is read; the waits for the transfers sent begin. -/
theorem part21 (v48 : FVec F S512x256 .bf16) (v487 : FVec F S512x512 .f32) (v489 : BitVec 32) (v500 : FVec F S512x256 .bf16) (v502 : FVec F S256x512 .bf16)
    (Q : _ → sProp 𝕄) :
    iprop(records m K ∗ levAts L lv ∗ st2 m c ∗ fs m c 1 3 1 ∗ sentRes (0, 0, 0) c ∗ ls m c 0 0 0 ∗ ow c (due c (rest 12)))
      ⊢ iprop(((st2 m c ∗ fs m c 1 3 1 ∗ fs m c 0 0 0 ∗ semVal (sCell (0, 0, 0) c) 0 ∗ ow c (due c (rest 12)))
            -∗ Q (k0_pay20 v48 v487 v489 v500 v502 (in2 m c) (sv m c (1, 3, 1))))
          -∗ Wp c ((onBufs (k0_part21 (F := F))) v48 v487 v489 v500 v502) Q) := by
  simp only [onBufs, k0_part21_eq_skeleton]; unfold k0_part21_skel
  simp only [Prog.lift, Prog.bind_op, Prog.bind_ret, Prog.pure_eq_ret]
  iintro ⟨#HR, #HL, H2, Hs, Hx, Hl, HO⟩ Hk
  iapply (wp_buf_load c (Memref.whole cc0_stg2_0) _) $$ H2; iintro H2
  iapply (wp_slot_load _ c (1, 3, 1) _ rfl) $$ Hs; iintro Hs
  iapply (wp_wait_send m K (0, 0, 0) (0, 0, 0) (0, 1, 0) rfl c rfl) $$ [Hx Hl HO]
  · iframe; isplitr <;> iassumption
  iintro ⟨Hl, Hz, HO⟩
  iapply (Wp_ret c)
  iapply Hk
  iframe

/-- Parts 22 to 25: ten more of those waits. -/
theorem part22 (Q : PUnit → sProp 𝕄) :
    iprop(records m K ∗ levAts L lv ∗ sentRes (0, 0, 1) c ∗ ls m c 0 0 1 ∗ sentRes (1, 0, 0) c ∗ ls m c 1 0 0 ∗ ow c (due c (rest 12)))
      ⊢ iprop(((fs m c 0 0 1 ∗ semVal (sCell (0, 0, 1) c) 0 ∗ fs m c 1 0 0 ∗ semVal (sCell (1, 0, 0) c) 0 ∗ ow c (due c (rest 12))) -∗ Q ⟨⟩)
          -∗ Wp c (onBufs (k0_part22 (F := F))) Q) := by
  simp only [onBufs, k0_part22_eq_skeleton]; unfold k0_part22_skel
  simp only [Prog.lift, Prog.bind_op, Prog.bind_ret, Prog.pure_eq_ret]
  iintro ⟨#HR, #HL, Hx, Hl, Hx', Hl', HO⟩ Hk
  iapply (wp_wait_send m K (0, 0, 1) (0, 0, 1) (0, 1, 1) rfl c rfl) $$ [Hx Hl HO]
  · iframe; isplitr <;> iassumption
  iintro ⟨Hl, Hz, HO⟩
  iapply (wp_wait_send m K (1, 0, 0) (1, 0, 0) (1, 1, 0) rfl c rfl) $$ [Hx' Hl' HO]
  · iframe; isplitr <;> iassumption
  iintro ⟨Hl', Hz', HO⟩
  iapply (Wp_ret c)
  iapply Hk
  iframe

theorem part23 (Q : PUnit → sProp 𝕄) :
    iprop(records m K ∗ levAts L lv ∗ sentRes (1, 0, 1) c ∗ ls m c 1 0 1 ∗ sentRes (0, 1, 0) c ∗ ls m c 0 1 0 ∗ sentRes (0, 1, 1) c ∗ ls m c 0 1 1 ∗ ow c (due c (rest 12)))
      ⊢ iprop(((fs m c 1 0 1 ∗ semVal (sCell (1, 0, 1) c) 0 ∗ fs m c 0 1 0 ∗ semVal (sCell (0, 1, 0) c) 0 ∗ fs m c 0 1 1 ∗ semVal (sCell (0, 1, 1) c) 0
            ∗ ow c (due c (rest 12))) -∗ Q ⟨⟩)
          -∗ Wp c (onBufs (k0_part23 (F := F))) Q) := by
  simp only [onBufs, k0_part23_eq_skeleton]; unfold k0_part23_skel
  simp only [Prog.lift, Prog.bind_op, Prog.bind_ret, Prog.pure_eq_ret]
  iintro ⟨#HR, #HL, Hx, Hl, Hx', Hl', Hx'', Hl'', HO⟩ Hk
  iapply (wp_wait_send m K (1, 0, 1) (1, 0, 1) (1, 1, 1) rfl c rfl) $$ [Hx Hl HO]
  · iframe; isplitr <;> iassumption
  iintro ⟨Hl, Hz, HO⟩
  iapply (wp_wait_send m K (0, 1, 0) (0, 1, 0) (0, 2, 0) rfl c rfl) $$ [Hx' Hl' HO]
  · iframe; isplitr <;> iassumption
  iintro ⟨Hl', Hz', HO⟩
  iapply (wp_wait_send m K (0, 1, 1) (0, 1, 1) (0, 2, 1) rfl c rfl) $$ [Hx'' Hl'' HO]
  · iframe; isplitr <;> iassumption
  iintro ⟨Hl'', Hz'', HO⟩
  iapply (Wp_ret c)
  iapply Hk
  iframe

theorem part24 (Q : PUnit → sProp 𝕄) :
    iprop(records m K ∗ levAts L lv ∗ sentRes (1, 1, 0) c ∗ ls m c 1 1 0 ∗ sentRes (1, 1, 1) c ∗ ls m c 1 1 1 ∗ ow c (due c (rest 12)))
      ⊢ iprop(((fs m c 1 1 0 ∗ semVal (sCell (1, 1, 0) c) 0 ∗ fs m c 1 1 1 ∗ semVal (sCell (1, 1, 1) c) 0 ∗ ow c (due c (rest 12))) -∗ Q ⟨⟩)
          -∗ Wp c (onBufs (k0_part24 (F := F))) Q) := by
  simp only [onBufs, k0_part24_eq_skeleton]; unfold k0_part24_skel
  simp only [Prog.lift, Prog.bind_op, Prog.bind_ret, Prog.pure_eq_ret]
  iintro ⟨#HR, #HL, Hx, Hl, Hx', Hl', HO⟩ Hk
  iapply (wp_wait_send m K (1, 1, 0) (1, 1, 0) (1, 2, 0) rfl c rfl) $$ [Hx Hl HO]
  · iframe; isplitr <;> iassumption
  iintro ⟨Hl, Hz, HO⟩
  iapply (wp_wait_send m K (1, 1, 1) (1, 1, 1) (1, 2, 1) rfl c rfl) $$ [Hx' Hl' HO]
  · iframe; isplitr <;> iassumption
  iintro ⟨Hl', Hz', HO⟩
  iapply (Wp_ret c)
  iapply Hk
  iframe

theorem part25 (Q : PUnit → sProp 𝕄) :
    iprop(records m K ∗ levAts L lv ∗ sentRes (0, 2, 0) c ∗ ls m c 0 2 0 ∗ sentRes (0, 2, 1) c ∗ ls m c 0 2 1 ∗ sentRes (1, 2, 0) c ∗ ls m c 1 2 0 ∗ ow c (due c (rest 12)))
      ⊢ iprop(((fs m c 0 2 0 ∗ semVal (sCell (0, 2, 0) c) 0 ∗ fs m c 0 2 1 ∗ semVal (sCell (0, 2, 1) c) 0 ∗ fs m c 1 2 0 ∗ semVal (sCell (1, 2, 0) c) 0
            ∗ ow c (due c (rest 12))) -∗ Q ⟨⟩)
          -∗ Wp c (onBufs (k0_part25 (F := F))) Q) := by
  simp only [onBufs, k0_part25_eq_skeleton]; unfold k0_part25_skel
  simp only [Prog.lift, Prog.bind_op, Prog.bind_ret, Prog.pure_eq_ret]
  iintro ⟨#HR, #HL, Hx, Hl, Hx', Hl', Hx'', Hl'', HO⟩ Hk
  iapply (wp_wait_send m K (0, 2, 0) (0, 2, 0) (0, 3, 0) rfl c rfl) $$ [Hx Hl HO]
  · iframe; isplitr <;> iassumption
  iintro ⟨Hl, Hz, HO⟩
  iapply (wp_wait_send m K (0, 2, 1) (0, 2, 1) (0, 3, 1) rfl c rfl) $$ [Hx' Hl' HO]
  · iframe; isplitr <;> iassumption
  iintro ⟨Hl', Hz', HO⟩
  iapply (wp_wait_send m K (1, 2, 0) (1, 2, 0) (1, 3, 0) rfl c rfl) $$ [Hx'' Hl'' HO]
  · iframe; isplitr <;> iassumption
  iintro ⟨Hl'', Hz'', HO⟩
  iapply (Wp_ret c)
  iapply Hk
  iframe

end Cert.KernelIdeal.Relay

end
-- ==== Proof.KernelIdeal.Whole.lean ====
/-
# The body

The parts in order: from a device's resources at its start to its result stored, every slot filled and whole, and every
semaphore of the relay at zero.
-/
module

public import proofs.«01_k».proof.Proof.KernelIdeal.Body

@[expose] public section

noncomputable section

namespace Cert.KernelIdeal.Relay

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-! ## The value the body stores -/

/-- The routed inputs: the tokens scaled by the probability of the expert each one chose. -/
def scaled : FVec F S512x256 .bf16 := k0_pay4 (k0_pay3 (in0 m c)) (in1 m c) (in2 m c)
/-- The running sum once the shared part and the first four experts are in; -/
def acc0 : FVec F S512x512 .f32 :=
  k0_pay8 (myW c) (scaled m c)
    (k0_pay7 (myW c) (scaled m c) (k0_pay5 (k0_pay3 (in0 m c)) (in4 m c)) (k0_pay6 (myW c) (scaled m c) (in2 m c))
      (sv m c (0, 0, 0)) (in2 m c) (sv m c (0, 0, 1)) (in2 m c) (sv m c (1, 0, 0))) 4#32 (in2 m c) (sv m c (1, 0, 1))
/-- the next four; -/
def acc1 : FVec F S512x512 .f32 :=
  k0_pay13 (k0_pay11 (myW c) (scaled m c) (k0_pay9 (myW c) (scaled m c) (acc0 m c) (in2 m c) (sv m c (0, 1, 0))) (k0_pay10 (myW c) (scaled m c) (in2 m c))
      (sv m c (0, 1, 1)) (in2 m c) (sv m c (1, 1, 0)))
    (k0_pay12 (myW c) (scaled m c) (in2 m c)) (sv m c (1, 1, 1))
/-- four more; -/
def acc2 : FVec F S512x512 .f32 :=
  k0_pay15 (scaled m c)
    (k0_pay14 (scaled m c) (acc1 m c) (Scalar.remsi (Scalar.addi (myW c) 2#32) 4#32)
      (Scalar.addi (Scalar.addi (Scalar.muli (Scalar.remsi (Scalar.addi (myW c) 2#32) 4#32) 4#32) 0#32) 0#32)
      (in2 m c) (sv m c (0, 2, 0)) (in2 m c) (sv m c (0, 2, 1)))
    (Scalar.remsi (Scalar.addi (myW c) 2#32) 4#32)
    (Scalar.addi (Scalar.addi (Scalar.muli (Scalar.remsi (Scalar.addi (myW c) 2#32) 4#32) 4#32) 2#32) 0#32)
    (in2 m c) (sv m c (1, 2, 0)) (in2 m c) (sv m c (1, 2, 1))
/-- the last four. -/
def outAt : FVec F S512x512 .f32 :=
  k0_pay20 (scaled m c)
    (k0_pay17 (scaled m c) (acc2 m c) (Scalar.remsi (Scalar.addi (myW c) 1#32) 4#32) (k0_pay16 (myW c) (scaled m c) (in2 m c))
      (sv m c (0, 3, 0)) (in2 m c) (sv m c (0, 3, 1)))
    (Scalar.remsi (Scalar.addi (myW c) 3#32) 4#32) (k0_pay18 (myW c) (scaled m c) (in2 m c)) (k0_pay19 (sv m c (1, 3, 0)))
    (in2 m c) (sv m c (1, 3, 1))

/-! ## Everything, transfer by transfer -/

/-- A resource for each of the twelve transfers, written out. -/
abbrev twelve (Φ : Xf → sProp 𝕄) : sProp 𝕄 :=
  iprop(Φ (0, 0, 0) ∗ Φ (0, 0, 1) ∗ Φ (0, 1, 0) ∗ Φ (0, 1, 1) ∗ Φ (0, 2, 0) ∗ Φ (0, 2, 1)
    ∗ Φ (1, 0, 0) ∗ Φ (1, 0, 1) ∗ Φ (1, 1, 0) ∗ Φ (1, 1, 1) ∗ Φ (1, 2, 0) ∗ Φ (1, 2, 1))

omit [FloatOps F] in
theorem bigSep_twelve (Φ : Xf → sProp 𝕄) : bigSep Finset.univ Φ = twelve Φ :=
  bigSep_univ_eq_bigSepL [(0, 0, 0), (0, 0, 1), (0, 1, 0), (0, 1, 1), (0, 2, 0), (0, 2, 1), (1, 0, 0), (1, 0, 1), (1, 1, 0), (1, 1, 1), (1, 2, 0), (1, 2, 1)]
    (by decide) (by decide) Φ

/-- All sixteen slots, filled. -/
abbrev allFilled : sProp 𝕄 :=
  iprop(fs m c 0 0 0 ∗ fs m c 0 0 1 ∗ fs m c 0 1 0 ∗ fs m c 0 1 1 ∗ fs m c 0 2 0 ∗ fs m c 0 2 1 ∗ fs m c 0 3 0 ∗ fs m c 0 3 1
    ∗ fs m c 1 0 0 ∗ fs m c 1 0 1 ∗ fs m c 1 1 0 ∗ fs m c 1 1 1 ∗ fs m c 1 2 0 ∗ fs m c 1 2 1 ∗ fs m c 1 3 0 ∗ fs m c 1 3 1)

omit [FloatOps F] in
theorem split_slots (f : S2x4x2x256x512.Idx → Elt F .bf16) :
    ((((c : Thread nD τ).loc cc0_scratch0) ↦{fullShare} f : sProp 𝕄))
      = iprop(slotPts fullShare c (0, 0, 0) f ∗ slotPts fullShare c (0, 0, 1) f ∗ slotPts fullShare c (0, 1, 0) f ∗ slotPts fullShare c (0, 1, 1) f
        ∗ slotPts fullShare c (0, 2, 0) f ∗ slotPts fullShare c (0, 2, 1) f ∗ slotPts fullShare c (0, 3, 0) f ∗ slotPts fullShare c (0, 3, 1) f
        ∗ slotPts fullShare c (1, 0, 0) f ∗ slotPts fullShare c (1, 0, 1) f ∗ slotPts fullShare c (1, 1, 0) f ∗ slotPts fullShare c (1, 1, 1) f
        ∗ slotPts fullShare c (1, 2, 0) f ∗ slotPts fullShare c (1, 2, 1) f ∗ slotPts fullShare c (1, 3, 0) f ∗ slotPts fullShare c (1, 3, 1) f) :=
  (Ring.pointsTo_blocks (ℓ := ((c : Thread nD τ).loc cc0_scratch0)) slotSet slot_disj slot_cover f).trans
    (bigSep_univ_eq_bigSepL [(0, 0, 0), (0, 0, 1), (0, 1, 0), (0, 1, 1), (0, 2, 0), (0, 2, 1), (0, 3, 0), (0, 3, 1),
      (1, 0, 0), (1, 0, 1), (1, 1, 0), (1, 1, 1), (1, 2, 0), (1, 2, 1), (1, 3, 0), (1, 3, 1)] (by decide) (by decide) (fun s => slotPts fullShare c s f))

/-- The scratch buffer at the start: the device's own slots as two blocks, the others one by one. -/
theorem deal_slots (f : S2x4x2x256x512.Idx → Elt F .bf16) :
    ((((c : Thread nD τ).loc cc0_scratch0) ↦{fullShare} f : sProp 𝕄)) ⊢ iprop(own c 0 ∗ own c 1 ∗ six c 0 ∗ six c 1) := by
  rw [split_slots]
  unfold six anySlot
  iintro ⟨A0, A1, A2, A3, A4, A5, A6, A7, B0, B1, B2, B3, B4, B5, B6, B7⟩
  isplitl [A0 A1]
  · iexists f; iapply (own_block c 0 f).2; isplitl [A0] <;> iassumption
  isplitl [B0 B1]
  · iexists f; iapply (own_block c 1 f).2; isplitl [B0] <;> iassumption
  isplitl [A2 A3 A4 A5 A6 A7]
  · isplitl [A2]; · iexists f; iexact A2
    isplitl [A3]; · iexists f; iexact A3
    isplitl [A4]; · iexists f; iexact A4
    isplitl [A5]; · iexists f; iexact A5
    isplitl [A6]; · iexists f; iexact A6
    iexists f; iexact A7
  isplitl [B2]; · iexists f; iexact B2
  isplitl [B3]; · iexists f; iexact B3
  isplitl [B4]; · iexists f; iexact B4
  isplitl [B5]; · iexists f; iexact B5
  isplitl [B6]; · iexists f; iexact B6
  iexists f; iexact B7

/-- The output's staging buffer. -/
abbrev st5 (X : S512x512.Idx → Elt F .f32) : sProp 𝕄 := ((c : Thread nD τ).loc cc0_stg5_0) ↦{fullShare} X

theorem zeros2 : (![0, 0] : Fin 2 → ℕ) = fun _ => 0 := by funext a; fin_cases a <;> rfl

/-- The last store overwrites the whole staging buffer. -/
theorem stored (fo w : S512x512.Idx → Elt F .f32) :
    ((Memref.whole cc0_stg5_0 : Memref sig .tc .vmem S512x512 .f32).access (Rect.unit (s := S512x512) ![0, 0] S512x512.size inb_S512x512_S512x512_0_0)).write
      (Elt F) fo w Finset.univ = w :=
  Memref.write_access_unit_zero_univ (Elt F) cc0_stg5_0 zeros2 _ fo w

/-- The body run from its start to its end. -/
theorem sound_body (fo : S512x512.Idx → Elt F .f32) (Q : PUnit → sProp 𝕄) :
    iprop(records m K ∗ levAts L lv ∗ own c 0 ∗ own c 1 ∗ six c 0 ∗ six c 1
        ∗ dutyTok ER (barCell (prv c)) 0 true ∗ dutyTok ER (barCell (nxt c)) 0 false ∗ cred (tallyAt (barCell c) () 2) ∗ atPos ER (barCell c) 0 ∅ 0
        ∗ twelve (fun x => sendRes x c) ∗ twelve (fun x => recvRes x c)
        ∗ st0 m c ∗ st1 m c ∗ st2 m c ∗ st3 m c ∗ st4 m c ∗ st5 c fo ∗ ow c (O₀ c))
      ⊢ iprop(((allFilled m c ∗ semVal (barCell c) 0 ∗ twelve (fun x => semVal (sCell x c) 0) ∗ twelve (fun x => semVal (vCell x c) 0)
            ∗ st0 m c ∗ st1 m c ∗ st2 m c ∗ st3 m c ∗ st4 m c ∗ st5 c (outAt m c) ∗ ow c 0) -∗ Q ⟨⟩)
          -∗ Wp c (onBufs (cc0_body (F := F))) Q) := by
  simp only [onBufs, cc0_body_eq_skeleton]; unfold cc0_body_skel
  iintro ⟨#HR, #HL, Ho0, Ho1, H60, H61, Htt, Htf, Hcb, Hab, HX, HV, H0, H1, H2, H3, H4, H5, HO⟩ Hk
  icases HX with ⟨X000, X001, X010, X011, X020, X021, X100, X101, X110, X111, X120, X121⟩
  icases HV with ⟨R000, R001, R010, R011, R020, R021, R100, R101, R110, R111, R120, R121⟩
  simp only [wp_bind]
  iapply (part1 m K c _) $$ [H60 H61 Htt Htf H3 H0 Ho0 Ho1 HO]
  · iframe; iexact HR
  iintro ⟨S000, S001, S100, S101, H3, H0, HO⟩
  iapply (part2 m K c _ _ _) $$ [H1 H2 Hcb Hab HO]
  · iframe; isplitr <;> iassumption
  iintro ⟨H1, H2, H61, H60, Zb, HO⟩
  unfold six
  icases H60 with ⟨D010, D011, D020, D021, D030, D031⟩
  icases H61 with ⟨D110, D111, D120, D121, D130, D131⟩
  iapply (part3 m K c _ _ _) $$ [S000 S001 D010 D011 X000 X001 HO]
  · iframe; iexact HR
  iintro ⟨S000, S001, X000, X001, HO⟩
  iapply (part4 m K c _ _ _ _ _) $$ [S100 S101 D110 D111 X100 X101 H4 H2 HO]
  · iframe; iexact HR
  iintro ⟨S100, S101, X100, X101, H4, H2, HO⟩
  iapply (part5 m c _ _ _ _ _) $$ [S000 S001 S100 H2]
  · iframe
  iintro ⟨S000, S001, S100, H2⟩
  iapply (part6 m K c _ _ _ _ _ _) $$ [H2 S101 R000 HO]
  · iframe; isplitr <;> iassumption
  iintro ⟨H2, S101, S010, V000, HO⟩
  iapply (part7 m K c _ _) $$ [S010 D020 X010 R001 HO]
  · iframe; isplitr <;> iassumption
  iintro ⟨S010, X010, S011, V001, HO⟩
  iapply (part8 m K c _ _ _) $$ [S011 D021 X011 R100 HO]
  · iframe; isplitr <;> iassumption
  iintro ⟨S011, X011, S110, V100, HO⟩
  iapply (part9 m K c _ _ _ _) $$ [S110 D120 X110 R101 HO]
  · iframe; isplitr <;> iassumption
  iintro ⟨S110, X110, S111, V101, HO⟩
  iapply (part10 m K c _ _ _ _) $$ [S111 D121 X111 H2 S010 HO]
  · iframe; iexact HR
  iintro ⟨S111, X111, H2, S010, HO⟩
  iapply (part11 m c _ _ _ _ _) $$ [S011 S110 H2]
  · iframe
  iintro ⟨S011, S110, H2⟩
  iapply (part12 m K c _ _ _ _) $$ [S111 R010 HO]
  · iframe; isplitr <;> iassumption
  iintro ⟨S111, S020, V010, HO⟩
  iapply (part13 m K c _ _) $$ [S020 D030 D031 X020 X021 R011 HO]
  · iframe; isplitr <;> iassumption
  iintro ⟨S020, S021, X020, X021, V011, HO⟩
  iapply (part14 m K c _ _) $$ [R110 D130 X120 HO]
  · iframe; isplitr <;> iassumption
  iintro ⟨S120, X120, V110, HO⟩
  iapply (part15 m K c _ _ _) $$ [R111 D131 X121 HO]
  · iframe; isplitr <;> iassumption
  iintro ⟨S121, X121, V111, HO⟩
  iapply (part16 m c _ _ _ _ _ _) $$ [S020 S021 H2]
  · iframe
  iintro ⟨S020, S021, H2⟩
  iapply (part17 m c _ _ _ _ _ _) $$ [S120 S121 H2]
  · iframe
  iintro ⟨S120, S121, H2⟩
  iapply (part18 m K c _ _ _ _) $$ [R020 R021 HO]
  · iframe; isplitr <;> iassumption
  iintro ⟨S030, S031, V020, V021, HO⟩
  iapply (part19 m K c _ _ _ _) $$ [R120 R121 H2 HO]
  · iframe; isplitr <;> iassumption
  iintro ⟨S130, S131, V120, V121, H2, HO⟩
  iapply (part20 m c _ _ _ _ _ _) $$ [S030 S031 S130 H2]
  · iframe
  iintro ⟨S030, S031, S130, H2⟩
  iapply (part21 m K c _ _ _ _ _ _) $$ [H2 S131 X000 S000 HO]
  · iframe; isplitr <;> iassumption
  iintro ⟨H2, S131, S000, Z000, HO⟩
  iapply (part22 m K c _) $$ [X001 S001 X100 S100 HO]
  · iframe; isplitr <;> iassumption
  iintro ⟨S001, Z001, S100, Z100, HO⟩
  iapply (part23 m K c _) $$ [X101 S101 X010 S010 X011 S011 HO]
  · iframe; isplitr <;> iassumption
  iintro ⟨S101, Z101, S010, Z010, S011, Z011, HO⟩
  iapply (part24 m K c _) $$ [X110 S110 X111 S111 HO]
  · iframe; isplitr <;> iassumption
  iintro ⟨S110, Z110, S111, Z111, HO⟩
  iapply (part25 m K c _) $$ [X020 S020 X021 S021 X120 S120 HO]
  · iframe; isplitr <;> iassumption
  iintro ⟨S020, Z020, S021, Z021, S120, Z120, HO⟩
  simp only [← wp_bind]
  simp only [Prog.lift, Prog.bind_op, Prog.bind_ret, Prog.pure_eq_ret]
  iapply (wp_wait_send m K (1, 2, 1) (1, 2, 1) (1, 3, 1) rfl c rfl) $$ [X121 S121 HO]
  · iframe; isplitr <;> iassumption
  iintro ⟨S121, Z121, HO⟩
  iapply (wp_buf_load c (Memref.whole cc0_stg5_0) _) $$ H5; iintro H5
  iapply (wp_store 𝒱₀ (c : Thread nD τ) none Set.univ (m := (Memref.whole cc0_stg5_0 : Memref sig .tc .vmem S512x512 .f32))
    (r := Rect.unit (s := S512x512) ![0, 0] S512x512.size inb_S512x512_S512x512_0_0) (Mk := Finset.univ) (Finset.subset_univ _)) $$ H5
  iintro H5
  iapply (Wp_ret c)
  iapply Hk
  isplitl [S000 S001 S010 S011 S020 S021 S030 S031 S100 S101 S110 S111 S120 S121 S130 S131]
  · unfold allFilled; iframe
  isplitl [Zb]; · iexact Zb
  isplitl [Z000 Z001 Z010 Z011 Z020 Z021 Z100 Z101 Z110 Z111 Z120 Z121]
  · unfold twelve; iframe
  isplitl [V000 V001 V010 V011 V020 V021 V100 V101 V110 V111 V120 V121]
  · unfold twelve; iframe
  isplitl [H0]; · iexact H0
  isplitl [H1]; · iexact H1
  isplitl [H2]; · iexact H2
  isplitl [H3]; · iexact H3
  isplitl [H4]; · iexact H4
  isplitl [H5]
  · iapply (Entails.of_eq (congrArg (fun X => st5 c X) (stored fo (outAt m c))))
    iexact H5
  iexact HO

end Cert.KernelIdeal.Relay

end
-- ==== Proof.KernelIdeal.Run.lean ====
/-
# The run

The launch: how the semaphores, the duties and the credits are dealt to the four devices, and the run of @main from any
memory: every execution ends, with each device's result array at the value of the body, the inputs unchanged and every
semaphore at zero.
-/
module

public import proofs.«01_k».proof.Proof.KernelIdeal.Whole
public import Idealize.ShloMosaic.Lib.Pipeline.CollectiveSegs

@[expose] public section

noncomputable section

namespace Cert.KernelIdeal.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its body -/

/-- The semaphores of the transfers. -/
abbrev osem (y : Xf ⊕ Xf) : SemLoc sig := semOf (.inr y)

/-- A device's own part of the ghost state: its places at its cells and the duties it pays. -/
def linear (c : Dev nD) : sProp 𝕄 :=
  iprop(dutyTok ER (barCell (prv c)) 0 true ∗ dutyTok ER (barCell (nxt c)) 0 false ∗ atPos ER (barCell c) 0 ∅ 0
    ∗ (bigSep Finset.univ fun x => sendRes x c) ∗ bigSep Finset.univ fun x : Xf => atPos ER (vCell x c) 0 ∅ 0)
def G' (c : Dev nD) : sProp 𝕄 := iprop(∃ K, records m K ∗ linear c)
def creds (c : Dev nD) : sProp 𝕄 := iprop(cred (tallyAt (barCell c) () 2) ∗ bigSep Finset.univ fun x => cred (tallyAt (vCell x c) () N))
def start (c : Dev nD) : sProp 𝕄 := iprop(G' m c ∗ creds c ∗ levAts L lv)

def Φ₀ (c : Dev nD) : sProp 𝕄 := iprop(start m c ∗ ∃ f, ((c : Thread nD τ).loc cc0_scratch0) ↦{fullShare} f)
def Φ₁ (c : Dev nD) : sProp 𝕄 :=
  iprop((((c : Thread nD τ).loc cc0_scratch0) ↦{fullShare} (full m c)) ∗ semVal (barCell c) 0
    ∗ (bigSep Finset.univ fun x => semVal (sCell x c) 0) ∗ bigSep Finset.univ fun x => semVal (vCell x c) 0)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      ⊣⊢ ((((c : Dev nD) : Thread nD τ).loc b) ↦{fullShare} X) := by
  unfold owns; simp only [Memref.view_whole, View.read_whole, View.set_whole]
  constructor
  · iintro ⟨%f, %h, H⟩; subst h; iexact H
  · iintro H; iexists X; isplitr; · (ipureintro; rfl)
    iexact H

/-! ## The body at its one grid point -/

abbrev stg (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m c ∗ (dats m 0 c).owesAt () t0_0.castSucc
    ∗ (∃ d, stg c cc0_stg0_0 ((dats m 0 c).before 0 t0_0 d))
    ∗ (∃ d, stg c cc0_stg1_0 ((dats m 0 c).before 1 t0_0 d))
    ∗ (∃ d, stg c cc0_stg2_0 ((dats m 0 c).before 2 t0_0 d))
    ∗ (∃ d, stg c cc0_stg3_0 ((dats m 0 c).before 3 t0_0 d))
    ∗ (∃ d, stg c cc0_stg4_0 ((dats m 0 c).before 4 t0_0 d))
    ∗ (∃ d, stg c cc0_stg5_0 ((dats m 0 c).before 5 t0_0 d)))

def bodyPost (c : Dev nD) : sProp 𝕄 :=
  iprop(Φ₁ m c ∗ (dats m 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt m c))

theorem before_0 (c : Dev nD) (d) : (dats m 0 c).before 0 t0_0 d = iblk m c 0 t0_0 := by unfold Dat.before; rw [if_pos (fetch0_0 t0_0)]; rfl
theorem before_1 (c : Dev nD) (d) : (dats m 0 c).before 1 t0_0 d = iblk m c 1 t0_0 := by unfold Dat.before; rw [if_pos (fetch0_1 t0_0)]; rfl
theorem before_2 (c : Dev nD) (d) : (dats m 0 c).before 2 t0_0 d = iblk m c 2 t0_0 := by unfold Dat.before; rw [if_pos (fetch0_2 t0_0)]; rfl
theorem before_3 (c : Dev nD) (d) : (dats m 0 c).before 3 t0_0 d = iblk m c 3 t0_0 := by unfold Dat.before; rw [if_pos (fetch0_3 t0_0)]; rfl
theorem before_4 (c : Dev nD) (d) : (dats m 0 c).before 4 t0_0 d = iblk m c 4 t0_0 := by unfold Dat.before; rw [if_pos (fetch0_4 t0_0)]; rfl

theorem body_point (c : Dev nD) : bodyPre m c ⊢ Wp c (onBufs (cc0_body (F := F))) (fun _ => bodyPost m c) := by
  unfold bodyPre Φ₀ start G' linear creds
  iintro ⟨⟨⟨⟨%K, #HR, Htt, Htf, Hab, HX, HA⟩, ⟨Hcb, HC⟩, #HL⟩, ⟨%f, Hsc⟩⟩, HO, ⟨%d0, H0⟩, ⟨%d1, H1⟩, ⟨%d2, H2⟩, ⟨%d3, H3⟩, ⟨%d4, H4⟩, ⟨%d5, H5⟩⟩
  rw [before_0, before_1, before_2, before_3, before_4]
  ihave H0 := (owns_whole c cc0_stg0_0 _).1 $$ H0
  ihave H1 := (owns_whole c cc0_stg1_0 _).1 $$ H1
  ihave H2 := (owns_whole c cc0_stg2_0 _).1 $$ H2
  ihave H3 := (owns_whole c cc0_stg3_0 _).1 $$ H3
  ihave H4 := (owns_whole c cc0_stg4_0 _).1 $$ H4
  ihave H5 := (owns_whole c cc0_stg5_0 _).1 $$ H5
  ihave Hsl := (deal_slots c f) $$ Hsc
  icases Hsl with ⟨Ho0, Ho1, H60, H61⟩
  ihave HX := (Entails.of_eq (bigSep_twelve (fun x => sendRes x c))) $$ HX
  ihave HV := (show iprop((bigSep Finset.univ fun x : Xf => (cred (tallyAt (vCell x c) () N) : sProp 𝕄)) ∗ (bigSep Finset.univ fun x : Xf => (atPos ER (vCell x c) 0 ∅ 0 : sProp 𝕄)))
      ⊢ twelve (fun x => recvRes x c) from Entails.of_eq (by rw [← bigSep_sep', ← bigSep_twelve]; rfl)) $$ [HC HA]
  · isplitl [HC] <;> iassumption
  iapply (sound_body m K c _ (fun _ => bodyPost m c)) $$ [Htt Htf Hab HX HV Hcb HO H0 H1 H2 H3 H4 H5 Ho0 Ho1 H60 H61]
  · isplitr; · iexact HR
    isplitr; · iexact HL
    isplitl [Ho0]; · iexact Ho0
    isplitl [Ho1]; · iexact Ho1
    isplitl [H60]; · iexact H60
    isplitl [H61]; · iexact H61
    isplitl [Htt]; · iexact Htt
    isplitl [Htf]; · iexact Htf
    isplitl [Hcb]; · iexact Hcb
    isplitl [Hab]; · iexact Hab
    isplitl [HX]; · iexact HX
    isplitl [HV]; · iexact HV
    isplitl [H0]; · iexact H0
    isplitl [H1]; · iexact H1
    isplitl [H2]; · iexact H2
    isplitl [H3]; · iexact H3
    isplitl [H4]; · iexact H4
    isplitl [H5]; · iexact H5
    unfold Dat.owesAt Pipeline.owesWithin ow
    icases HO with ⟨%W, -, HO⟩
    iexists W; iexact HO
  iintro ⟨HS, Hz, HzS, HzV, H0, H1, H2, H3, H4, H5, HO⟩
  unfold bodyPost Φ₁
  isplitl [HS Hz HzS HzV]
  · isplitl [HS]; · iapply (Entails.of_eq (split_slots c (full m c)).symm); iexact HS
    isplitl [Hz]; · iexact Hz
    isplitl [HzS]; · iapply (Entails.of_eq (bigSep_twelve (fun x => semVal (sCell x c) 0)).symm); iexact HzS
    iapply (Entails.of_eq (bigSep_twelve (fun x => semVal (vCell x c) 0)).symm); iexact HzV
  isplitl [HO]
  · unfold Dat.owesAt Pipeline.owesWithin ow
    icases HO with ⟨%W, HO⟩
    iexists W; isplitr; · (ipureintro; exact fun _ _ => Or.inl trivial)
    iexact HO
  isplitl [H0]; · iapply (owns_whole c cc0_stg0_0 _).2; iexact H0
  isplitl [H1]; · iapply (owns_whole c cc0_stg1_0 _).2; iexact H1
  isplitl [H2]; · iapply (owns_whole c cc0_stg2_0 _).2; iexact H2
  isplitl [H3]; · iapply (owns_whole c cc0_stg3_0 _).2; iexact H3
  isplitl [H4]; · iapply (owns_whole c cc0_stg4_0 _).2; iexact H4
  iapply (owns_whole c cc0_stg5_0 _).2; iexact H5

set_option maxRecDepth 4000 in
theorem body_obligation (c : Dev nD) : BodyObligation (dats (F := F) m 0 c) (defs₀ (F := F)) 𝒱₀ () Set.univ := fun t => by
  rw [fin_N0 t]
  rw [bigSep_W0, bigSep_W0]
  exact body_point m c

/-! ## The launch: ghost state -/

set_option maxRecDepth 8000 in
theorem ownSemFacts : Pipeline.OwnSemFacts cfg0.spec osem := by decide
theorem share_eq (c : Dev nD) (w : Fin cfg0.W) : (dats m 0 c).share w = fullShare := by unfold Dat.share; split <;> rfl

set_option maxRecDepth 8000 in
theorem semOf_injective : Function.Injective semOf := by decide

theorem kcell_injective : Function.Injective kcell := by
  rintro ⟨c, k⟩ ⟨c', k'⟩ h
  have h1 : c = c' := congrArg (fun g : GSem nD τ sig => g.1.1) h
  have h2 : k = k' := semOf_injective (congrArg Prod.snd h)
  rw [h1, h2]
def relayCells : Finset (GSem nD τ sig) := Finset.univ.map ⟨kcell, kcell_injective⟩

/-- The duties of a device's own cells: two at its barrier, one at each other. -/
abbrev Ti : Type := Bool ⊕ (Xf ⊕ Xf)
abbrev tokK : Ti → Ci × Bool
  | .inl b => (.inl (), b)
  | .inr y => (.inr y, false)
theorem tokK_injective : Function.Injective tokK := by
  intro a b h
  cases a <;> cases b
  · exact congrArg Sum.inl (congrArg Prod.snd h)
  · exact absurd (congrArg Prod.fst h) (fun h' => by cases h')
  · exact absurd (congrArg Prod.fst h) (fun h' => by cases h')
  · exact congrArg Sum.inr (Sum.inr_injective (congrArg Prod.fst h))
abbrev tokOf (ct : Dev nD × Ti) : GSem nD τ sig × ℕ × Bool := (kcell (ct.1, (tokK ct.2).1), 0, (tokK ct.2).2)
theorem tokOf_injective : Function.Injective tokOf := by
  rintro ⟨c, j⟩ ⟨c', j'⟩ h
  have h1 := kcell_injective (congrArg (fun x : GSem nD τ sig × ℕ × Bool => x.1) h)
  have h2 : j = j' := tokK_injective (Prod.ext (congrArg Prod.snd h1) (congrArg (fun x : GSem nD τ sig × ℕ × Bool => x.2.2) h))
  rw [show c = c' from congrArg Prod.fst h1, h2]
def relayToks : Finset (GSem nD τ sig × ℕ × Bool) := Finset.univ.map ⟨tokOf, tokOf_injective⟩

def u₀ : UU := (initOf (Pipeline.cells cfgs cellOf_inj) (Pipeline.launchToks cfgs cellOf_inj), initOf relayCells relayToks)

def toks (c : Dev nD) : sProp 𝕄 :=
  iprop((dutyTok ER (barCell c) 0 false ∗ dutyTok ER (barCell c) 0 true)
    ∗ (bigSep Finset.univ fun x => dutyTok ER (sCell x c) 0 false) ∗ bigSep Finset.univ fun x => dutyTok ER (vCell x c) 0 false)
def payToks (c : Dev nD) : sProp 𝕄 :=
  iprop(dutyTok ER (barCell (prv c)) 0 true ∗ dutyTok ER (barCell (nxt c)) 0 false
    ∗ (bigSep Finset.univ fun x => dutyTok ER (sCell x c) 0 false) ∗ bigSep Finset.univ fun x => dutyTok ER (vCell x (tgt x c)) 0 false)
def places (c : Dev nD) : sProp 𝕄 :=
  iprop(atPos ER (barCell c) 0 ∅ 0 ∗ (bigSep Finset.univ fun x : Xf => atPos ER (sCell x c) 0 ∅ 0) ∗ bigSep Finset.univ fun x : Xf => atPos ER (vCell x c) 0 ∅ 0)

def G (c : Dev nD) : sProp 𝕄 :=
  iprop((bigSep Finset.univ fun k : Ci => roundState ER (relayRd m) (kcell (c, k)) 0)
    ∗ (bigSep Finset.univ fun k : Ci => iprop(atPos ER (kcell (c, k)) 0 ∅ 0 ∗ reached ER (kcell (c, k)) 0)) ∗ toks c)

omit [FloatOps F] in
/-- Over a device's cells: its barrier cell, its send cells, its receive cells. -/
theorem bigSep_Ci (Φ : Ci → sProp 𝕄) : bigSep Finset.univ Φ
    = iprop(Φ (.inl ()) ∗ (bigSep Finset.univ fun x => Φ (.inr (.inl x))) ∗ bigSep Finset.univ fun x => Φ (.inr (.inr x))) := by
  rw [bigSep_univ_sum, bigSep_univ_sum, bigSep_univ_eq_bigSepL [()] (by decide) (by decide), bigSepL_singleton]; rfl

omit [FloatOps F] in
theorem toks_eq (c : Dev nD) : (bigSep Finset.univ fun j : Ti => (dutyTok ER (tokOf (c, j)).1 (tokOf (c, j)).2.1 (tokOf (c, j)).2.2 : sProp 𝕄)) = toks c := by
  unfold toks
  rw [bigSep_univ_sum, bigSep_univ_sum, bigSep_univ_eq_bigSepL [false, true] (by decide) (by decide), bigSepL_cons_cons, bigSepL_singleton]; rfl

theorem fund_relay : BI.own (ER (initOf relayCells relayToks)) ⊢ (|==> bigSep Finset.univ (G m) : sProp 𝕄) := by
  have hX (Φ : GSem nD τ sig → sProp 𝕄) : bigSep relayCells Φ = bigSep Finset.univ fun c : Dev nD => bigSep Finset.univ fun k : Ci => Φ (kcell (c, k)) := by
    unfold relayCells; rw [bigSep_map, bigSep_univ_prod]; rfl
  have hT : bigSep relayToks (fun x => (dutyTok ER x.1 x.2.1 x.2.2 : sProp 𝕄)) = bigSep Finset.univ fun c : Dev nD => toks c := by
    unfold relayToks; rw [bigSep_map, bigSep_univ_prod]
    exact bigSep_congr fun c _ => toks_eq c
  iintro HX
  imod (Rounds.fund ER (relayRd m) relayCells relayToks) $$ HX with ⟨Hst, Hr, Hat, Htok⟩
  imodintro
  ihave Hst' := (Entails.of_eq (hX fun g => roundState ER (relayRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barrier0] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x => semVal (sCell x c) 0) ∗ bigSep Finset.univ fun x => semVal (vCell x c) 0) := by
  unfold Pipeline.ownSems0; rw [bigSep_univ_sum]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [ownSems0_eq, unscopedSems0_eq, bigSep_Ci]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (relayRd m) κ (kcell (c, k))))
          ∗ (bigSep Finset.univ fun k => iprop(atPos ER (kcell (c, k)) 0 ∅ 0 ∗ reached ER (kcell (c, k)) 0)) ∗ toks c) := by
  unfold G
  iintro ⟨Ho, Hu, Hst, Hat, Htok⟩
  ihave Hv := (sems0 (F := F) c) $$ [Ho Hu]
  · isplitl [Ho] <;> iassumption
  imod (show iprop((bigSep Finset.univ fun k : Ci => semVal (kcell (c, k)) 0) ∗ bigSep Finset.univ fun k : Ci => roundState ER (relayRd m) (kcell (c, k)) 0)
      ⊢ (|={Set.univ}=> bigSep Finset.univ fun k => iprop(∃ κ : ℕ, cellInv ER (relayRd m) κ (kcell (c, k))) : sProp 𝕄) from by
        rw [← bigSep_sep']
        exact (bigSep_mono fun k _ => (Rounds.body_intro ER (relayRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A transfer's sender against its receiver. -/
def tgtE : Dev nD × Xf ≃ Dev nD × Xf :=
  ⟨fun p => (tgt p.2 p.1, p.2), fun p => (frm p.2 p.1, p.2), fun p => Prod.ext (frm_tgt p.2 p.1) rfl, fun p => Prod.ext (tgt_frm p.2 p.1) rfl⟩

omit [FloatOps F] in
/-- The duties go to the devices that pay them. -/
theorem toks_around : (bigSep Finset.univ fun c : Dev nD => (toks c : sProp 𝕄)) ⊢ bigSep Finset.univ fun c : Dev nD => payToks c := by
  have hv : (bigSep Finset.univ fun c : Dev nD => bigSep Finset.univ fun x : Xf => (dutyTok ER (vCell x c) 0 false : sProp 𝕄))
      = bigSep Finset.univ fun c : Dev nD => bigSep Finset.univ fun x : Xf => dutyTok ER (vCell x (tgt x c)) 0 false := by
    rw [← bigSep_univ_prod (fun p : Dev nD × Xf => (dutyTok ER (vCell p.2 p.1) 0 false : sProp 𝕄)),
      ← bigSep_univ_prod (fun p : Dev nD × Xf => (dutyTok ER (vCell p.2 (tgt p.2 p.1)) 0 false : sProp 𝕄))]
    exact bigSep_univ_equiv tgtE (fun p : Dev nD × Xf => (dutyTok ER (vCell p.2 p.1) 0 false : sProp 𝕄))
  unfold toks payToks
  rw [bigSep_sep', bigSep_sep', bigSep_sep', bigSep_sep', bigSep_sep', bigSep_sep', hv,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨Hf, Ht⟩, Hs, Hv⟩
  isplitl [Ht]; · iexact Ht
  isplitl [Hf]; · iexact Hf
  isplitl [Hs] <;> iassumption

omit [FloatOps F] in
theorem linear_intro (c : Dev nD) : iprop(places c ∗ payToks c) ⊢ (linear c : sProp 𝕄) := by
  have hs : iprop((bigSep Finset.univ fun x : Xf => (dutyTok ER (sCell x c) 0 false : sProp 𝕄))
      ∗ (bigSep Finset.univ fun x : Xf => (dutyTok ER (vCell x (tgt x c)) 0 false : sProp 𝕄))
      ∗ bigSep Finset.univ fun x : Xf => (atPos ER (sCell x c) 0 ∅ 0 : sProp 𝕄)) ⊢ bigSep Finset.univ fun x => sendRes x c :=
    Entails.of_eq (by unfold sendRes; rw [bigSep_sep', bigSep_sep'])
  unfold places payToks linear
  iintro ⟨⟨Hb, Hs, Hv⟩, Htt, Htf, Hts, Htv⟩
  isplitl [Htt]; · iexact Htt
  isplitl [Htf]; · iexact Htf
  isplitl [Hb]; · iexact Hb
  isplitl [Hts Htv Hs]
  · iapply hs
    isplitl [Hts]; · iexact Hts
    isplitl [Htv] <;> iassumption
  iexact Hv

theorem ghost_intro (K : Dev nD × Ci → ℕ) (c : Dev nD) : iprop(records m K ∗ linear c) ⊢ G' m c := by
  unfold G'
  iintro H
  iexists K; iexact H

/-- Every summand may use a persistent assertion held once. -/
theorem bigSep_using {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (relayRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  classical
  rw [bigSep_sep', bigSep_sep', ← bigSep_univ_prod (fun ck : Dev nD × Ci => iprop(∃ κ : ℕ, cellInv ER (relayRd m) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, #HR⟩, Htok⟩
  ihave HK := (BI.bigSep_exists_pi Finset.univ (fun (ck : Dev nD × Ci) (κ : ℕ) => (cellInv ER (relayRd m) κ (kcell ck) : sProp 𝕄))) $$ HI
  icases HK with ⟨%K, #HI⟩
  ihave Htk := (toks_around (F := F)) $$ Htok
  iapply (bigSep_using (R := records m K) fun c => ghost_intro m K c)
  isplitr
  · unfold records; isplitl; · iexact HI
    iexact HR
  · iapply ((Entails.of_eq (bigSep_sep' Finset.univ (fun c : Dev nD => bigSep Finset.univ fun k : Ci => (atPos ER (kcell (c, k)) 0 ∅ 0 : sProp 𝕄)) payToks).symm).trans
      (bigSep_mono fun c _ => show _ ⊢ linear c from (Entails.of_eq (by rw [bigSep_Ci]; rfl)).trans (linear_intro c)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch: credits -/

theorem bar_eq_iff {a b : Dev nD} : Iff (barCell a = barCell b) (a = b) :=
  ⟨fun h => congrArg (fun g : GSem nD τ sig => g.1.1) h, fun h => h ▸ rfl⟩
theorem v_eq_iff {x y : Xf} {a b : Dev nD} : Iff (vCell x a = vCell y b) (x = y ∧ a = b) := by
  constructor
  · intro h
    have h' : (a, Sum.inr (Sum.inr x)) = (b, (Sum.inr (Sum.inr y) : Ci)) := kcell_injective (a₁ := (a, .inr (.inr x))) (a₂ := (b, .inr (.inr y))) h
    exact ⟨Sum.inr_injective (Sum.inr_injective (congrArg Prod.snd h')), congrArg Prod.fst h'⟩
  · rintro ⟨rfl, rfl⟩; rfl
theorem v_ne_bar {x : Xf} {a b : Dev nD} : vCell x a ≠ barCell b := fun h => by cases h

theorem due_cons (d : Dev nD) (y : Xf) (l : List Xf) : due d (y :: l) = due d l + tallyAt (vCell y (tgt y d)) () N := rfl

theorem due_v (d c : Dev nD) (x : Xf) : ∀ l : List Xf, due d l (vCell x c) () = if d = frm x c then N * l.count x else 0
  | [] => by rw [List.count_nil, Nat.mul_zero, ite_self]; rfl
  | y :: l => by
    rw [due_cons, Pi.add_apply, Finsupp.add_apply, tallyAt_apply, due_v d c x l, List.count_cons]
    by_cases h : y = x
    · subst h
      by_cases hd : d = frm y c
      · subst hd
        rw [if_pos rfl, if_pos rfl, if_pos ⟨v_eq_iff.mpr ⟨rfl, (tgt_frm y c).symm⟩, rfl⟩]
        simp only [beq_self_eq_true, if_true, Nat.mul_add, Nat.mul_one]
      · have hn : ¬ (vCell y c = vCell y (tgt y d) ∧ () = ()) := fun h1 => hd (by rw [(v_eq_iff.mp h1.1).2, frm_tgt])
        rw [if_neg hd, if_neg hd, if_neg hn]
    · have hn : ¬ (vCell x c = vCell y (tgt y d) ∧ () = ()) := fun h1 => h (v_eq_iff.mp h1.1).1.symm
      rw [if_neg hn, show (y == x) = false from beq_false_of_ne h]
      simp only [Bool.false_eq_true, if_false, Nat.add_zero]
theorem due_bar (d c : Dev nD) : ∀ l : List Xf, due d l (barCell c) () = 0
  | [] => rfl
  | y :: l => by
    have hn : ¬ (barCell c = vCell y (tgt y d) ∧ () = ()) := fun h1 => v_ne_bar h1.1.symm
    rw [due_cons, Pi.add_apply, Finsupp.add_apply, due_bar d c l, tallyAt_apply, if_neg hn]

theorem count_order (x : Xf) : (rest 0).count x = 1 := by revert x; decide

theorem owed_v (d c : Dev nD) (x : Xf) : O₀ d (vCell x c) () = if d = frm x c then N else 0 := by
  unfold O₀ O₁
  have hn (e : Dev nD) : ¬ (vCell x c = barCell e ∧ () = ()) := fun h1 => v_ne_bar h1.1
  rw [Pi.add_apply, Finsupp.add_apply, Pi.add_apply, Finsupp.add_apply, tallyAt_apply, tallyAt_apply, due_v, if_neg (hn _), if_neg (hn _), count_order, Nat.mul_one, Nat.add_zero]
theorem owed_bar (d c : Dev nD) : O₀ d (barCell c) () = (if d = prv c then 1 else 0) + (if d = nxt c then 1 else 0) := by
  unfold O₀ O₁
  rw [Pi.add_apply, Finsupp.add_apply, Pi.add_apply, Finsupp.add_apply, tallyAt_apply, tallyAt_apply, due_bar, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_v (c : Dev nD) (x : Xf) :
    tallyOn (vCell x c) (launchCredit (Pipeline.owing O₀) 0 (vCell x c)) = (tallyAt (vCell x c) () N : CellTallies nD τ sig Unit) := by
  unfold tallyAt; refine congrArg _ (Finsupp.ext fun u => ?_); cases u
  rw [Pipeline.launchCredit_owing, Finsupp.single_eq_same, Finset.sum_congr rfl fun d _ => owed_v d c x,
    Finset.sum_ite_eq' Finset.univ (frm x c) fun _ => N, if_pos (Finset.mem_univ _)]

/-- The semaphores on which a device has launch credit. -/
def credSem : Unit ⊕ Xf ↪ SemLoc sig := ⟨fun
  | .inl _ => semOf (.inl ())
  | .inr x => semOf (.inr (.inr x)), fun a b h => by
    cases a <;> cases b
    · rfl
    · exact absurd (semOf_injective h) (fun h' => by cases h')
    · exact absurd (semOf_injective h) (fun h' => by cases h')
    · exact congrArg Sum.inr (Sum.inr_injective (Sum.inr_injective (semOf_injective h)))⟩

omit [FloatOps F] in
theorem creds_intro (c : Dev nD) : (Pipeline.launchCred O₀ c : sProp 𝕄) ⊢ creds c := by
  unfold Pipeline.launchCred creds
  refine (bigSep_subset (Finset.subset_univ (Finset.univ.map credSem))).trans ?_
  rw [bigSep_map, bigSep_univ_sum, bigSep_univ_eq_bigSepL [()] (by decide) (by decide), bigSepL_singleton]
  refine BIClass.sep_mono (Entails.of_eq (congrArg cred (launch_bar c))) (Entails.of_eq (bigSep_congr fun x _ => congrArg cred (launch_v c x)))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (full m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the run leaves: every window's array at its contents after the one grid point. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- The run of @main, from any memory with zero counters. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_relay m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- THE FRAME: the run, its values dropped. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _), (h.1 c 4).trans ((dats m 0 c).arrAt_in 4 rfl _)⟩, h.2⟩)
    (run_main m ρ)

end Cert.KernelIdeal.Relay

end
-- ==== Proof.Math.lean ====
/-
# The layer's arithmetic on the extended reals

One token's share of a mixture-of-experts layer with one routed expert and a shared one, as functions of the token's
row, the router's matrix and the weights. The kernel weighs the token's row and multiplies the weighted row by every
expert's matrix, the row replaced by zeros where the expert is not the chosen one. The reference multiplies the row by
every expert's matrix, keeps the chosen expert's product and weighs that. The two agree wherever the weight is a real
number at least zero; with finite scores it is one.
-/
module

public import Idealize.ShloMosaic.Lib.ValueIdx
public import Idealize.ShloMosaic.PureOps.Ideal.Laws
public import Mathlib.Data.EReal.Operations
public import Mathlib.Data.EReal.Inv

@[expose] public section

noncomputable section

namespace Cert.Layer

open Idealize.ShloMosaic

/-! ## The formulas -/

/-- A token's score for an expert: its row times the router's column. -/
def score (x : Fin 256 → EReal) (R : Fin 256 → Fin 16 → EReal) (e : Fin 16) : EReal := ∑ k, x k * R k e

/-- The largest of sixteen scores. -/
def best (s : Fin 16 → EReal) : EReal := (Finset.univ : Finset (Fin 16)).fold max ⊥ s

/-- The softmax of sixteen scores. -/
def prob (s : Fin 16 → EReal) (e : Fin 16) : EReal :=
  Ideal.div (Ideal.exp (s e - best s)) (∑ e', Ideal.exp (s e' - best s))

/-- Whether a token's chosen word names expert `e`. -/
def chosen (i : BitVec 32) (e : Fin 16) : Prop := i = BitVec.ofNat 32 e.val

instance (i : BitVec 32) (e : Fin 16) : Decidable (chosen i e) := inferInstanceAs (Decidable (_ = _))

/-- The chosen expert's share of the softmax. -/
def weight (s : Fin 16 → EReal) (i : BitVec 32) : EReal := ∑ e, if chosen i e then prob s e else 0

/-- The product of a row and a column. -/
def dot (x w : Fin 256 → EReal) : EReal := ∑ k, x k * w k

/-- One expert's part as the kernel computes it: the weighted row where the expert is the chosen one, zeros elsewhere,
    times the expert's column. -/
def part (x : Fin 256 → EReal) (g : EReal) (hit : Prop) [Decidable hit] (w : Fin 256 → EReal) : EReal :=
  ∑ k, (if hit then x k * g else 0) * w k

/-! ## Finite scores give a real weight -/

/-- An extended real that is a real number. -/
def IsReal (a : EReal) : Prop := ∃ r : ℝ, a = r

theorem IsReal.mul {a b : EReal} : IsReal a → IsReal b → IsReal (a * b) := by
  rintro ⟨r, rfl⟩ ⟨q, rfl⟩; exact ⟨r * q, (EReal.coe_mul r q).symm⟩

theorem IsReal.sum {ι : Type} (s : Finset ι) (f : ι → EReal) (h : ∀ i, IsReal (f i)) : IsReal (∑ i ∈ s, f i) := by
  classical
  choose r hr using h
  refine ⟨∑ i ∈ s, r i, ?_⟩
  rw [Finset.sum_congr rfl fun i _ => hr i]
  induction s using Finset.induction_on with
  | empty => simp
  | insert a s ha ih => rw [Finset.sum_insert ha, Finset.sum_insert ha, EReal.coe_add, ih]

theorem score_real {x : Fin 256 → EReal} {R : Fin 256 → Fin 16 → EReal} (hx : ∀ k, IsReal (x k)) (hR : ∀ k e, IsReal (R k e))
    (e : Fin 16) : IsReal (score x R e) := IsReal.sum _ _ fun k => (hx k).mul (hR k e)

theorem best_real {s : Fin 16 → EReal} (hs : ∀ e, IsReal (s e)) : IsReal (best s) := by
  have hlt : best s < ⊤ := by
    unfold best
    rw [Finset.fold_max_lt]
    refine ⟨bot_lt_top, fun e _ => ?_⟩
    obtain ⟨r, hr⟩ := hs e
    rw [hr]; exact EReal.coe_lt_top r
  have hge : s 0 ≤ best s := by
    unfold best
    rw [Finset.le_fold_max]
    exact .inr ⟨0, Finset.mem_univ _, le_rfl⟩
  obtain ⟨r, hr⟩ := hs 0
  have hgt : ⊥ < best s := lt_of_lt_of_le (by rw [hr]; exact EReal.bot_lt_coe r) hge
  exact ⟨(best s).toReal, (EReal.coe_toReal hlt.ne hgt.ne').symm⟩

theorem exp_coe (r : ℝ) : Ideal.exp (r : EReal) = (Real.exp r : EReal) := rfl

/-- The softmax of real scores is real and at least zero. -/
theorem prob_real {s : Fin 16 → EReal} (hs : ∀ e, IsReal (s e)) (e : Fin 16) : ∃ r : ℝ, 0 ≤ r ∧ prob s e = r := by
  obtain ⟨b, hb⟩ := best_real hs
  choose r hr using hs
  have hexp : ∀ e', Ideal.exp (s e' - best s) = (Real.exp (r e' - b) : EReal) := fun e' => by
    rw [hr, hb, ← EReal.coe_sub, exp_coe]
  have hsum : (∑ e', Ideal.exp (s e' - best s)) = ((∑ e', Real.exp (r e' - b) : ℝ) : EReal) := by
    rw [Finset.sum_congr rfl fun e' _ => hexp e']
    exact (map_sum (⟨⟨((↑) : ℝ → EReal), EReal.coe_zero⟩, EReal.coe_add⟩ : ℝ →+ EReal) _ _).symm
  have hpos : 0 < ∑ e', Real.exp (r e' - b) := Finset.sum_pos (fun e' _ => Real.exp_pos _) Finset.univ_nonempty
  refine ⟨Real.exp (r e - b) / ∑ e', Real.exp (r e' - b), div_nonneg (Real.exp_pos _).le hpos.le, ?_⟩
  unfold prob
  rw [hexp, hsum, Ideal.div, if_neg (by exact_mod_cast hpos.ne'), div_eq_mul_inv, EReal.coe_mul, EReal.coe_inv]

/-- So is the chosen expert's share. -/
theorem weight_real {s : Fin 16 → EReal} (hs : ∀ e, IsReal (s e)) (i : BitVec 32) : 0 ≤ weight s i ∧ weight s i ≠ ⊤ := by
  constructor
  · refine Finset.sum_nonneg fun e _ => ?_
    obtain ⟨r, h0, hr⟩ := prob_real hs e
    split
    · rw [hr]; exact_mod_cast h0
    · exact le_rfl
  · have h : IsReal (weight s i) := IsReal.sum _ _ fun e => by
      obtain ⟨r, h0, hr⟩ := prob_real hs e
      split
      · exact ⟨r, hr⟩
      · exact ⟨0, EReal.coe_zero.symm⟩
    obtain ⟨r, hr⟩ := h
    rw [hr]; exact EReal.coe_ne_top r

/-! ## Weighing before and after -/

/-- A factor that is real and at least zero goes through any finite sum. -/
theorem mul_sum_of {ι : Type} {g : EReal} (h0 : 0 ≤ g) (ht : g ≠ ⊤) (s : Finset ι) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h0 ht, ih]

/-- One expert's part is the weight times the row's product with the expert's column, kept or not. -/
theorem part_eq (x : Fin 256 → EReal) {g : EReal} (h0 : 0 ≤ g) (ht : g ≠ ⊤) (hit : Prop) [Decidable hit] (w : Fin 256 → EReal) :
    part x g hit w = g * (dot x w * if hit then 1 else 0) := by
  unfold part dot
  by_cases h : hit
  · simp only [if_pos h, mul_one]
    rw [mul_sum_of h0 ht]
    exact Finset.sum_congr rfl fun k _ => by rw [mul_comm (x k) g, mul_assoc]
  · simp only [if_neg h, zero_mul, mul_zero, Finset.sum_const_zero]

/-- All the experts' parts together are the weight times the sum the reference weighs. -/
theorem parts_eq (x : Fin 256 → EReal) {g : EReal} (h0 : 0 ≤ g) (ht : g ≠ ⊤) (i : BitVec 32) (W : Fin 16 → Fin 256 → EReal) :
    ∑ e, part x g (chosen i e) (W e) = g * ∑ e, dot x (W e) * if chosen i e then 1 else 0 := by
  rw [mul_sum_of h0 ht]
  exact Finset.sum_congr rfl fun e _ => part_eq x h0 ht _ _

/-- The chosen share as a sum of products with ones and zeros. -/
theorem weight_eq (s : Fin 16 → EReal) (i : BitVec 32) : (∑ e, prob s e * if chosen i e then 1 else 0) = weight s i :=
  Finset.sum_congr rfl fun e _ => by split <;> simp

/-- A token's result, as the kernel computes it. -/
def fused (x : Fin 256 → EReal) (R : Fin 256 → Fin 16 → EReal) (i : BitVec 32) (W : Fin 16 → Fin 256 → EReal) (S : Fin 256 → EReal) : EReal :=
  dot x S + ∑ e, part x (weight (score x R) i) (chosen i e) (W e)

/-- A token's result, as the reference computes it. -/
def plain (x : Fin 256 → EReal) (R : Fin 256 → Fin 16 → EReal) (i : BitVec 32) (W : Fin 16 → Fin 256 → EReal) (S : Fin 256 → EReal) : EReal :=
  dot x S + weight (score x R) i * ∑ e, dot x (W e) * if chosen i e then 1 else 0

/-- THE TWO AGREE where the row and the router's matrix are real; the experts' weights may be anything. -/
theorem fused_eq_plain {x : Fin 256 → EReal} {R : Fin 256 → Fin 16 → EReal} (hx : ∀ k, IsReal (x k)) (hR : ∀ k e, IsReal (R k e))
    (i : BitVec 32) (W : Fin 16 → Fin 256 → EReal) (S : Fin 256 → EReal) : fused x R i W S = plain x R i W S := by
  unfold fused plain
  obtain ⟨h0, ht⟩ := weight_real (fun e => score_real hx hR e) i
  rw [parts_eq x h0 ht]

/-! ## Constants and comparisons -/

theorem ofBits_negInf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_zero_bf16 : Ideal.ofBits .bf16 0x0000#16 = 0 := by simp [Ideal.ofBits, Ideal.ieee]

/-- A value whose magnitude compares below infinity is real. -/
theorem real_of_lt {a : EReal} (h : Ideal.cmp .olt (max a (-a)) ⊤ = 1#1) : IsReal a := by
  have h1 : max a (-a) < ⊤ := by
    by_contra hn
    rw [Ideal.cmp, decide_eq_false hn] at h
    exact absurd h (by decide)
  rw [max_lt_iff] at h1
  refine ⟨a.toReal, (EReal.coe_toReal h1.1.ne fun hb => ?_).symm⟩
  rw [hb] at h1
  exact absurd h1.2 (by simp)

/-- The truth value of an equality of words, as a bit. -/
theorem eq_bit (a b : BitVec 32) : IntOp.cmpi .eq a b = if a = b then 1#1 else 0#1 := by
  by_cases h : a = b
  · subst h; simp [IntOp.cmpi]
  · rw [if_neg h]
    show BitVec.ofBool (a == b) = 0#1
    rw [beq_eq_false_iff_ne.mpr h]; rfl

/-- A select on that bit is a choice on the equality. -/
theorem select_eq_bit {α : Type} (a b : BitVec 32) (u v : α) : Scalar.select (IntOp.cmpi .eq a b) u v = if a = b then u else v := by
  rw [eq_bit]; split <;> rfl

end Cert.Layer

end
-- ==== Proof.KernelIdeal.Value.lean ====
/-
# What the kernel computes, element by element

The result of a device's body, read at a token and a column over the extended reals: the shared part plus sixteen
experts' parts, each from the slot that holds the expert's weights. The slots of a device hold all sixteen experts, in
an order that depends on the device; the sum does not.
-/
module

public import proofs.«01_k».proof.Proof.KernelIdeal.Run
public import proofs.«01_k».proof.Proof.Math

@[expose] public section

noncomputable section

namespace Cert.KernelIdeal.Relay

open Cert.KernelIdeal Cert.KernelIdeal.Gen Cert.Layer

open Idealize.ShloMosaic
open Idealize.ShloMosaic.TcCoe Idealize.ShloMosaic.ValueIdx
open Idealize.SL.Sem

/-! ## The body's result as sixteen like steps -/

section Steps

variable {F : FTy → Type} [FloatOps F]

/-- One expert's turn: the tokens whose chosen word is `id`, the others replaced by zeros, times a slot's weights, added
    to the running sum. -/
def turn (sc : FVec F S512x256 .bf16) (ids : IVec S512x1 32) (acc : FVec F S512x512 .f32) (id : BitVec 32)
    (w : FVec F S1x1x1x256x512 .bf16) : FVec F S512x512 .f32 :=
  addf acc (matmul dot_S512x256_S256x512_S512x512_1_0_0_1_n_n none
    (select (broadcastTo S512x256 (shapeCast S512x1 (cmpi .eq (shapeCast S512x1 ids shapeCasts_S512x1_S512x1) (broadcast S512x1 id))
      shapeCasts_S512x1_S512x1) broadcasts_S512x1_S512x256) sc (broadcast S512x256 (Scalar.ofBits .bf16 0x0000#16)))
    (shapeCast S256x512 w shapeCasts_S1x1x1x256x512_S256x512) (constant S512x512 .f32 0x00000000#32))

/-- An expert's word, as the kernel computes it from its device's position: the direction's offset, then the block's. -/
abbrev idWord (w a b : BitVec 32) : BitVec 32 := Scalar.addi (Scalar.addi (Scalar.muli w 4#32) a) b
/-- The word of the device `a` places on. -/
abbrev onWord (w a : BitVec 32) : BitVec 32 := Scalar.remsi (Scalar.addi w a) 4#32

variable (m : (ℓ : Loc nD τ sig) → Buf (Elt F) ℓ) (c : Dev nD)

/-- The shared experts' part. -/
def base : FVec F S512x512 .f32 := k0_pay5 (k0_pay3 (in0 m c)) (in4 m c)

/-- A device's turn at a slot. -/
abbrev at_ (acc : FVec F S512x512 .f32) (id : BitVec 32) (s : Sl) : FVec F S512x512 .f32 :=
  turn (scaled m c) (in2 m c) acc id (sv m c s)

theorem acc0_turns : acc0 m c =
    at_ m c (at_ m c (at_ m c (at_ m c (base m c) (idWord (myW c) 0#32 0#32) (0, 0, 0)) (idWord (myW c) 0#32 1#32) (0, 0, 1))
      (idWord (myW c) 2#32 0#32) (1, 0, 0)) (idWord (myW c) 2#32 1#32) (1, 0, 1) := rfl

theorem acc1_turns : acc1 m c =
    at_ m c (at_ m c (at_ m c (at_ m c (acc0 m c) (idWord (onWord (myW c) 3#32) 0#32 0#32) (0, 1, 0))
      (idWord (onWord (myW c) 3#32) 0#32 1#32) (0, 1, 1)) (idWord (onWord (myW c) 1#32) 2#32 0#32) (1, 1, 0))
      (idWord (onWord (myW c) 1#32) 2#32 1#32) (1, 1, 1) := rfl

theorem acc2_turns : acc2 m c =
    at_ m c (at_ m c (at_ m c (at_ m c (acc1 m c) (idWord (onWord (myW c) 2#32) 0#32 0#32) (0, 2, 0))
      (idWord (onWord (myW c) 2#32) 0#32 1#32) (0, 2, 1)) (idWord (onWord (myW c) 2#32) 2#32 0#32) (1, 2, 0))
      (idWord (onWord (myW c) 2#32) 2#32 1#32) (1, 2, 1) := rfl

theorem out_turns : outAt m c =
    at_ m c (at_ m c (at_ m c (at_ m c (acc2 m c) (idWord (onWord (myW c) 1#32) 0#32 0#32) (0, 3, 0))
      (idWord (onWord (myW c) 1#32) 0#32 1#32) (0, 3, 1)) (idWord (onWord (myW c) 3#32) 2#32 0#32) (1, 3, 0))
      (idWord (onWord (myW c) 3#32) 2#32 1#32) (1, 3, 1) := rfl

end Steps

/-! ## Which expert a slot holds -/

/-- The expert of a device's block. -/
def expert (o : Dev nD) (r : Fin 4) : Fin 16 := ⟨o.val * 4 + r.val, by have := o.isLt; have := r.isLt; have h : nD = 4 := rfl; omega⟩

/-- The expert a slot of a device holds. -/
def slotExpert (c : Dev nD) (s : Sl) : Fin 16 := expert (origin c s.1 s.2.1) (rowOf s.1 s.2.2)

/-- That expert's word. -/
abbrev slotId (c : Dev nD) (s : Sl) : BitVec 32 := BitVec.ofNat 32 (slotExpert c s).val

theorem id_000 (c : Dev nD) : idWord (myW c) 0#32 0#32 = slotId c (0, 0, 0) := by revert c; decide
theorem id_001 (c : Dev nD) : idWord (myW c) 0#32 1#32 = slotId c (0, 0, 1) := by revert c; decide
theorem id_100 (c : Dev nD) : idWord (myW c) 2#32 0#32 = slotId c (1, 0, 0) := by revert c; decide
theorem id_101 (c : Dev nD) : idWord (myW c) 2#32 1#32 = slotId c (1, 0, 1) := by revert c; decide
theorem id_010 (c : Dev nD) : idWord (onWord (myW c) 3#32) 0#32 0#32 = slotId c (0, 1, 0) := by revert c; decide
theorem id_011 (c : Dev nD) : idWord (onWord (myW c) 3#32) 0#32 1#32 = slotId c (0, 1, 1) := by revert c; decide
theorem id_110 (c : Dev nD) : idWord (onWord (myW c) 1#32) 2#32 0#32 = slotId c (1, 1, 0) := by revert c; decide
theorem id_111 (c : Dev nD) : idWord (onWord (myW c) 1#32) 2#32 1#32 = slotId c (1, 1, 1) := by revert c; decide
theorem id_020 (c : Dev nD) : idWord (onWord (myW c) 2#32) 0#32 0#32 = slotId c (0, 2, 0) := by revert c; decide
theorem id_021 (c : Dev nD) : idWord (onWord (myW c) 2#32) 0#32 1#32 = slotId c (0, 2, 1) := by revert c; decide
theorem id_120 (c : Dev nD) : idWord (onWord (myW c) 2#32) 2#32 0#32 = slotId c (1, 2, 0) := by revert c; decide
theorem id_121 (c : Dev nD) : idWord (onWord (myW c) 2#32) 2#32 1#32 = slotId c (1, 2, 1) := by revert c; decide
theorem id_030 (c : Dev nD) : idWord (onWord (myW c) 1#32) 0#32 0#32 = slotId c (0, 3, 0) := by revert c; decide
theorem id_031 (c : Dev nD) : idWord (onWord (myW c) 1#32) 0#32 1#32 = slotId c (0, 3, 1) := by revert c; decide
theorem id_130 (c : Dev nD) : idWord (onWord (myW c) 3#32) 2#32 0#32 = slotId c (1, 3, 0) := by revert c; decide
theorem id_131 (c : Dev nD) : idWord (onWord (myW c) 3#32) 2#32 1#32 = slotId c (1, 3, 1) := by revert c; decide

theorem slotExpert_inj (c : Dev nD) : Function.Injective (slotExpert c) := by revert c; decide

/-- The slots of a device are the sixteen experts, each once. -/
theorem slotExpert_bij (c : Dev nD) : Function.Bijective (slotExpert c) :=
  (Fintype.bijective_iff_injective_and_card _).mpr ⟨slotExpert_inj c, rfl⟩

/-- A sum over the experts is the sum over a device's slots, in the order the kernel adds them. -/
theorem sum_slots (c : Dev nD) (f : Fin 16 → EReal) (b : EReal) :
    b + f (slotExpert c (0, 0, 0)) + f (slotExpert c (0, 0, 1)) + f (slotExpert c (1, 0, 0)) + f (slotExpert c (1, 0, 1))
      + f (slotExpert c (0, 1, 0)) + f (slotExpert c (0, 1, 1)) + f (slotExpert c (1, 1, 0)) + f (slotExpert c (1, 1, 1))
      + f (slotExpert c (0, 2, 0)) + f (slotExpert c (0, 2, 1)) + f (slotExpert c (1, 2, 0)) + f (slotExpert c (1, 2, 1))
      + f (slotExpert c (0, 3, 0)) + f (slotExpert c (0, 3, 1)) + f (slotExpert c (1, 3, 0)) + f (slotExpert c (1, 3, 1))
      = b + ∑ e, f e := by
  rw [← (Equiv.ofBijective _ (slotExpert_bij c)).sum_comp f]
  simp only [Fintype.sum_prod_type, Fin.sum_univ_two, Fin.sum_univ_four, Equiv.ofBijective_apply]
  ac_rfl

/-! ## The products and the inputs at an index -/

/-- The product of a block of tokens and a weight matrix, at a token and a column. -/
theorem mm_out (l : FVec Ideal S512x256 .bf16) (r : FVec Ideal S256x512 .bf16) (t : Fin 512) (f : Fin 512) :
    matmul dot_S512x256_S256x512_S512x512_1_0_0_1_n_n none l r (constant S512x512 .f32 0x00000000#32) (ix2 t f)
      = ∑ k : Fin 256, l (ix2 t k) * r (ix2 k f) := by
  simp only [matmul]
  rw [Ideal.matmul_constant_zero_apply]
  rw [← Equiv.sum_comp (contrEquiv1 dot_S512x256_S256x512_S512x512_1_0_0_1_n_n 256 rfl rfl).symm]
  refine Finset.sum_congr rfl fun k _ => ?_
  congr 1
  · refine congrArg l (funext fun a => Fin.ext ?_)
    match a with
    | ⟨0, _⟩ => rfl
    | ⟨1, _⟩ => rfl
  · refine congrArg r (funext fun a => Fin.ext ?_)
    match a with
    | ⟨0, _⟩ => rfl
    | ⟨1, _⟩ => rfl

/-- The product of a block of tokens and the router's matrix, at a token and an expert. -/
theorem mm_score (l : FVec Ideal S512x256 .bf16) (r : FVec Ideal S256x16 .bf16) (t : Fin 512) (e : Fin 16) :
    matmul dot_S512x256_S256x16_S512x16_1_0_0_1_n_n none l r (constant S512x16 .f32 0x00000000#32) (ix2 t e)
      = ∑ k : Fin 256, l (ix2 t k) * r (ix2 k e) := by
  simp only [matmul]
  rw [Ideal.matmul_constant_zero_apply]
  rw [← Equiv.sum_comp (contrEquiv1 dot_S512x256_S256x16_S512x16_1_0_0_1_n_n 256 rfl rfl).symm]
  refine Finset.sum_congr rfl fun k _ => ?_
  congr 1
  · refine congrArg l (funext fun a => Fin.ext ?_)
    match a with
    | ⟨0, _⟩ => rfl
    | ⟨1, _⟩ => rfl
  · refine congrArg r (funext fun a => Fin.ext ?_)
    match a with
    | ⟨0, _⟩ => rfl
    | ⟨1, _⟩ => rfl

/-- One expert's turn at a token and a column. -/
theorem turn_apply (sc : FVec Ideal S512x256 .bf16) (ids : IVec S512x1 32) (acc : FVec Ideal S512x512 .f32) (id : BitVec 32)
    (w : FVec Ideal S1x1x1x256x512 .bf16) (t : Fin 512) (f : Fin 512) :
    turn sc ids acc id w (ix2 t f)
      = acc (ix2 t f) + ∑ k : Fin 256, (if ids (ix2 t 0) = id then sc (ix2 t k) else 0) * w (ix5 (0 : Fin 1) (0 : Fin 1) (0 : Fin 1) k f) := by
  unfold turn
  rw [addf_apply, mm_out]
  congr 1
  refine Finset.sum_congr rfl fun k _ => ?_
  rw [select_apply, broadcastTo_apply _ _ (ix2 t k) (ix2 t (0 : Fin 1)) (fun a => by
    match a with
    | ⟨0, _⟩ => rfl
    | ⟨1, _⟩ => rfl), shapeCast_self, shapeCast_self]
  rw [shapeCast_apply w _ (ix2 k f) (ix5 (0 : Fin 1) (0 : Fin 1) (0 : Fin 1) k f) (by
    rw [Shape.rowMajor_val_two, Shape.rowMajor_val_five]; simp)]
  congr 1
  refine (select_eq_bit (ids (ix2 t 0)) id _ _).trans ?_
  rw [show (broadcast S512x256 (Scalar.ofBits (F := Ideal) .bf16 0x0000#16)) (ix2 t k) = 0 from ofBits_zero_bf16]

variable (m : (ℓ : Loc nD τ sig) → Buf (Elt Ideal) ℓ) (c : Dev nD)

/-- Each argument's block, at the one grid point, is the device's buffer as launched. -/
theorem blk_0 : iblk m c 0 t0_0 = m ((c : Thread nD τ).loc main_arg0) :=
  Memref.read_access_unit_zero (Elt Ideal) main_arg0 (off := fun a => win0_0.index t0_0 a * main_arg0.ty.shape.size a)
    (by funext a; fin_cases a <;> decide) _ _
theorem blk_1 : iblk m c 1 t0_0 = m ((c : Thread nD τ).loc main_arg1) :=
  Memref.read_access_unit_zero (Elt Ideal) main_arg1 (off := fun a => win0_1.index t0_0 a * main_arg1.ty.shape.size a)
    (by funext a; fin_cases a <;> decide) _ _
theorem blk_2 : iblk m c 2 t0_0 = m ((c : Thread nD τ).loc main_arg2) :=
  Memref.read_access_unit_zero (Elt Ideal) main_arg2 (off := fun a => win0_2.index t0_0 a * main_arg2.ty.shape.size a)
    (by funext a; fin_cases a <;> decide) _ _
theorem blk_3 : iblk m c 3 t0_0 = m ((c : Thread nD τ).loc main_arg3) :=
  Memref.read_access_unit_zero (Elt Ideal) main_arg3 (off := fun a => win0_3.index t0_0 a * main_arg3.ty.shape.size a)
    (by funext a; fin_cases a <;> decide) _ _
theorem blk_4 : iblk m c 4 t0_0 = m ((c : Thread nD τ).loc main_arg4) :=
  Memref.read_access_unit_zero (Elt Ideal) main_arg4 (off := fun a => win0_4.index t0_0 a * main_arg4.ty.shape.size a)
    (by funext a; fin_cases a <;> decide) _ _

theorem zero_off : (![0, 0] : Fin 2 → Nat) = fun _ => 0 := by funext a; fin_cases a <;> rfl

/-- The whole of a staged argument, loaded, is the argument. -/
theorem in0_eq : in0 m c = m ((c : Thread nD τ).loc main_arg0) :=
  (Memref.readAt_unit_zero (Elt Ideal) cc0_stg0_0 zero_off _ _).trans (blk_0 m c)
theorem in1_eq : in1 m c = m ((c : Thread nD τ).loc main_arg1) :=
  (Memref.readAt_unit_zero (Elt Ideal) cc0_stg1_0 zero_off _ _).trans (blk_1 m c)
theorem in2_eq : in2 m c = m ((c : Thread nD τ).loc main_arg2) :=
  (Memref.readAt_unit_zero (Elt Ideal) cc0_stg2_0 zero_off _ _).trans (blk_2 m c)
theorem in4_eq : in4 m c = m ((c : Thread nD τ).loc main_arg4) :=
  (Memref.readAt_unit_zero (Elt Ideal) cc0_stg4_0 zero_off _ _).trans (blk_4 m c)

/-- A token's row on a device; -/
def row (t : Fin 512) (k : Fin 256) : EReal := (m ((c : Thread nD τ).loc main_arg0) : FVec Ideal S512x256 .bf16) (ix2 t k)
/-- the router's matrix, as the device holds it; -/
def router (k : Fin 256) (e : Fin 16) : EReal := (m ((c : Thread nD τ).loc main_arg1) : FVec Ideal S256x16 .bf16) (ix2 k e)
/-- the word a token chose; -/
def choice (t : Fin 512) : BitVec 32 := (m ((c : Thread nD τ).loc main_arg2) : IVec S512x1 32) (ix2 t 0)
/-- a column of one of the device's own experts; -/
def mine (r : Fin 4) (f : Fin 512) (k : Fin 256) : EReal := (m ((c : Thread nD τ).loc main_arg3) : FVec Ideal S4x256x512 .bf16) (ix3 r k f)
/-- a column of the shared weights. -/
def shared (f : Fin 512) (k : Fin 256) : EReal := (m ((c : Thread nD τ).loc main_arg4) : FVec Ideal S256x512 .bf16) (ix2 k f)

/-- The device an expert lives on, -/
def home (e : Fin 16) : Dev nD := ⟨e.val / 4, by have := e.isLt; show e.val / 4 < 4; omega⟩
/-- and its place there. -/
def place (e : Fin 16) : Fin 4 := ⟨e.val % 4, Nat.mod_lt _ (by decide)⟩
/-- A column of an expert's weights, wherever it lives. -/
def column (f : Fin 512) (e : Fin 16) (k : Fin 256) : EReal := mine m (home e) (place e) f k

theorem home_slot (s : Sl) : home (slotExpert c s) = origin c s.1 s.2.1 := by revert c s; decide
theorem place_slot (s : Sl) : place (slotExpert c s) = rowOf s.1 s.2.2 := by revert c s; decide

/-- A filled slot, loaded, is the weights of the expert it is for. -/
theorem sv_apply (s : Sl) (k : Fin 256) (f : Fin 512) :
    sv m c s (ix5 (0 : Fin 1) (0 : Fin 1) (0 : Fin 1) k f) = column m f (slotExpert c s) k := by
  show full m c ((slotR s).emb (ix5 (0 : Fin 1) (0 : Fin 1) (0 : Fin 1) k f)) = _
  rw [slot_idx]
  unfold column mine
  rw [home_slot, place_slot]
  exact congrFun (blk_3 m (origin c s.1 s.2.1)) (ix3 (rowOf s.1 s.2.2) k f)

/-- The scores, at a token and an expert. -/
theorem score_apply (t : Fin 512) (e : Fin 16) :
    matmul dot_S512x256_S256x16_S512x16_1_0_0_1_n_n none (shapeCast S512x256 (in0 m c) shapeCasts_S512x256_S512x256)
        (shapeCast S256x16 (in1 m c) shapeCasts_S256x16_S256x16) (constant S512x16 .f32 0x00000000#32) (ix2 t e)
      = score (row m c t) (router m c) e := by
  rw [mm_score, shapeCast_self, shapeCast_self, in0_eq, in1_eq]
  rfl

/-- A row's value spread over the columns, at an index. -/
theorem spread_apply {n : Nat} (v : FVec Ideal S512 .f32) (h : S512x1.Broadcasts ⟨2, ![512, n]⟩) (t : Fin 512) (e : Fin n) (hn : n ≠ 0) :
    broadcastTo ⟨2, ![512, n]⟩ (shapeCast S512x1 v shapeCasts_S512_S512x1) h (ix2 t e) = v (ix1 t) := by
  rw [broadcastTo_apply _ _ (ix2 t e) (ix2 t (0 : Fin 1)) (fun a => by
    match a with
    | ⟨0, _⟩ => rfl
    | ⟨1, _⟩ => rfl)]
  exact shapeCast_apply v _ (ix2 t (0 : Fin 1)) (ix1 t) (by rw [Shape.rowMajor_val_one, Shape.rowMajor_val_two]; simp)

/-- A sum over the experts, at a token; -/
theorem sum_apply (v : FVec Ideal S512x16 .f32) (t : Fin 512) :
    multiReduction .add [1] S512 v 0x00000000#32 reduces_S512x16_S512 (.inl rfl) rfl (ix1 t) = ∑ e : Fin 16, v (ix2 t e) := by
  refine (Ideal.multiReduction_add_single v _ _ _ _ _).trans ?_
  refine Finset.sum_congr rfl fun e _ => congrArg v (funext fun a => Fin.ext ?_)
  match a with
  | ⟨0, _⟩ => rfl
  | ⟨1, _⟩ => rfl

/-- and the largest. -/
theorem max_apply (v : FVec Ideal S512x16 .f32) (t : Fin 512) :
    multiReduction .maximumf [1] S512 v 0xFF800000#32 reduces_S512x16_S512 (.inl rfl) rfl (ix1 t) = best fun e => v (ix2 t e) := by
  refine (Ideal.multiReduction_maximumf_single v _ _ _ _ _).trans ?_
  unfold best
  rw [show (FloatOps.ofBits (F := Ideal) .f32 0xFF800000#32) = (⊥ : EReal) from ofBits_negInf]
  refine congrArg (fun g => (Finset.univ : Finset (Fin 16)).fold max ⊥ g) (funext fun e => congrArg v (funext fun a => Fin.ext ?_))
  match a with
  | ⟨0, _⟩ => rfl
  | ⟨1, _⟩ => rfl

/-- The chosen word spread over the experts' columns. -/
theorem choice_apply (t : Fin 512) (e : Fin 16) :
    broadcastTo S512x16 (shapeCast S512x1 (in2 m c) shapeCasts_S512x1_S512x1) broadcasts_S512x1_S512x16 (ix2 t e) = choice m c t := by
  rw [broadcastTo_apply _ _ (ix2 t e) (ix2 t (0 : Fin 1)) (fun a => by
    match a with
    | ⟨0, _⟩ => rfl
    | ⟨1, _⟩ => rfl), shapeCast_self, in2_eq]
  rfl

/-- The softmax as the kernel computes it, from any scores. -/
theorem softmax_apply (s : FVec Ideal S512x16 .f32) (t : Fin 512) (e : Fin 16) :
    divf (exp (subf s (broadcastTo S512x16 (shapeCast S512x1
        (multiReduction .maximumf [1] S512 s 0xFF800000#32 reduces_S512x16_S512 (.inl rfl) rfl) shapeCasts_S512_S512x1) broadcasts_S512x1_S512x16)))
      (broadcastTo S512x16 (shapeCast S512x1 (multiReduction .add [1] S512 (exp (subf s (broadcastTo S512x16 (shapeCast S512x1
        (multiReduction .maximumf [1] S512 s 0xFF800000#32 reduces_S512x16_S512 (.inl rfl) rfl) shapeCasts_S512_S512x1) broadcasts_S512x1_S512x16)))
        0x00000000#32 reduces_S512x16_S512 (.inl rfl) rfl) shapeCasts_S512_S512x1) broadcasts_S512x1_S512x16) (ix2 t e)
      = prob (fun e' => s (ix2 t e')) e := by
  have hexp : ∀ e' : Fin 16, exp (subf s (broadcastTo S512x16 (shapeCast S512x1
      (multiReduction .maximumf [1] S512 s 0xFF800000#32 reduces_S512x16_S512 (.inl rfl) rfl) shapeCasts_S512_S512x1) broadcasts_S512x1_S512x16)) (ix2 t e')
      = Ideal.exp (s (ix2 t e') - best fun e'' => s (ix2 t e'')) := fun e' => by
    refine congrArg (fun b : EReal => Ideal.exp (s (ix2 t e') - b)) ?_
    exact (spread_apply _ _ t e' (by decide)).trans (max_apply s t)
  rw [divf_apply, hexp, spread_apply _ _ _ _ (by decide), sum_apply]
  unfold prob
  exact congrArg (Ideal.div _) (Finset.sum_congr rfl fun e' _ => hexp e')

/-- The tokens weighed, at a token and a coordinate. -/
theorem scaled_apply (t : Fin 512) (k : Fin 256) :
    scaled m c (ix2 t k) = row m c t k * weight (score (row m c t) (router m c)) (choice m c t) := by
  unfold scaled k0_pay4 k0_pay3
  dsimp only
  rw [truncf_apply, mulf_apply, extf_apply, spread_apply _ _ _ _ (by decide), sum_apply]
  congr 1
  · rw [shapeCast_self, in0_eq]; rfl
  unfold weight
  refine Finset.sum_congr rfl fun e _ => ?_
  rw [select_apply, softmax_apply]
  refine (select_eq_bit _ _ _ _).trans ?_
  rw [choice_apply, iota_single_apply]
  simp only [score_apply]
  rw [show (broadcast S512x16 (Scalar.ofBits (F := Ideal) .f32 0x00000000#32)) (ix2 t e) = 0 from Ideal.ofBits_zero_f32]
  refine if_congr ⟨fun h => h.symm, fun h => Eq.symm h⟩ rfl rfl

/-- The shared part at a token and a column. -/
theorem base_apply (t f : Fin 512) : base m c (ix2 t f) = dot (row m c t) (shared m c f) := by
  unfold base k0_pay5 k0_pay3
  dsimp only
  rw [mm_out, shapeCast_self, shapeCast_self, in0_eq, in4_eq]
  rfl

/-- A turn at a token and a column adds the part of the slot's expert. -/
theorem at_apply (acc : FVec Ideal S512x512 .f32) (s : Sl) (t f : Fin 512) :
    at_ m c acc (slotId c s) s (ix2 t f)
      = acc (ix2 t f) + part (row m c t) (weight (score (row m c t) (router m c)) (choice m c t))
          (chosen (choice m c t) (slotExpert c s)) (column m f (slotExpert c s)) := by
  unfold at_
  rw [turn_apply, in2_eq]
  congr 1
  refine Finset.sum_congr rfl fun k _ => ?_
  rw [scaled_apply, sv_apply]
  rfl

/-- THE KERNEL'S RESULT at a token and a column: the shared part plus every expert's. -/
theorem out_apply (t f : Fin 512) :
    outAt m c (ix2 t f) = fused (row m c t) (router m c) (choice m c t) (column m f) (shared m c f) := by
  rw [out_turns, acc2_turns, acc1_turns, acc0_turns, id_000, id_001, id_100, id_101, id_010, id_011, id_110, id_111,
    id_020, id_021, id_120, id_121, id_030, id_031, id_130, id_131]
  simp only [at_apply, base_apply]
  exact sum_slots c (fun e => part (row m c t) (weight (score (row m c t) (router m c)) (choice m c t)) (chosen (choice m c t) e) (column m f e)) _

/-! ## The result array -/

/-- After the run the result array is what the body stored. -/
theorem arrAt_out : (dats m 0 c).arrAt 5 cfg0.N = outAt m c := by
  have hw : ((cfg0.win 5).blk t0_0).view.read (Elt Ideal) ((dats m 0 c).arrAt 5 cfg0.N) = (dats m 0 c).flushed 5 t0_0 := by
    rw [show cfg0.N = t0_0.val + 1 from rfl, (dats m 0 c).arrAt_succ (5 : Fin 6) t0_0, flush0_5, if_pos rfl]
    exact View.read_write_univ _ _
  have hf : (dats m 0 c).flushed 5 t0_0 = outAt m c := rfl
  rw [hf] at hw
  exact (Memref.read_access_unit_zero (Elt Ideal) main_v1 (off := fun a => win0_5.index t0_0 a * main_v1.ty.shape.size a)
    (by funext a; fin_cases a <;> decide) _ _).symm.trans hw

end Cert.KernelIdeal.Relay

end
-- ==== Proof.Reference.lean ====
/-
# What the reference computes, element by element

The reference's result, read at a token and a column over the extended reals.
-/
module

public import proofs.«01_k».proof.Proof.Gen.ReferenceIdeal.Run
public import proofs.«01_k».proof.Proof.Math
public import Idealize.ShloMosaic.Lib.IdealHost
public import Idealize.ShloMosaic.Lib.Pipeline.Value

@[expose] public section

noncomputable section

namespace Cert.ReferenceIdeal.Read

open Cert.ReferenceIdeal Cert.ReferenceIdeal.Gen Cert.Layer

open Idealize.ShloMosaic
open Idealize.ShloMosaic.TcCoe Idealize.ShloMosaic.ValueIdx
open Idealize.SL.Sem

/-! ## The operations at an index -/

/-- The product with the router's matrix, at a token and an expert. -/
theorem dot_score (l : FVec Ideal S2048x256 .f32) (r : FVec Ideal S256x16 .f32) (t : Fin 2048) (e : Fin 16) :
    Host.dotGeneral dot_S2048x256_S256x16_S2048x16_1_0_0_1_n_n none l r (ix2 t e) = ∑ k : Fin 256, l (ix2 t k) * r (ix2 k e) := by
  refine (Ideal.dotGeneral_apply _ _ _ _ _ _).trans ?_
  rw [← Equiv.sum_comp (contrEquiv1 dot_S2048x256_S256x16_S2048x16_1_0_0_1_n_n 256 rfl rfl).symm]
  refine Finset.sum_congr rfl fun k _ => ?_
  congr 1
  · exact congrArg l (funext fun a => Fin.ext (by match a with | ⟨0, _⟩ => rfl | ⟨1, _⟩ => rfl))
  · exact congrArg r (funext fun a => Fin.ext (by match a with | ⟨0, _⟩ => rfl | ⟨1, _⟩ => rfl))

/-- The product with the shared weights, at a token and a column. -/
theorem dot_shared (l : FVec Ideal S2048x256 .f32) (r : FVec Ideal S256x512 .f32) (t : Fin 2048) (f : Fin 512) :
    Host.dotGeneral dot_S2048x256_S256x512_S2048x512_1_0_0_1_n_n none l r (ix2 t f) = ∑ k : Fin 256, l (ix2 t k) * r (ix2 k f) := by
  refine (Ideal.dotGeneral_apply _ _ _ _ _ _).trans ?_
  rw [← Equiv.sum_comp (contrEquiv1 dot_S2048x256_S256x512_S2048x512_1_0_0_1_n_n 256 rfl rfl).symm]
  refine Finset.sum_congr rfl fun k _ => ?_
  congr 1
  · exact congrArg l (funext fun a => Fin.ext (by match a with | ⟨0, _⟩ => rfl | ⟨1, _⟩ => rfl))
  · exact congrArg r (funext fun a => Fin.ext (by match a with | ⟨0, _⟩ => rfl | ⟨1, _⟩ => rfl))

/-- The product with every expert's weights, at a token, an expert and a column. -/
theorem dot_every (l : FVec Ideal S2048x256 .f32) (r : FVec Ideal S16x256x512 .f32) (t : Fin 2048) (e : Fin 16) (f : Fin 512) :
    Host.dotGeneral dot_S2048x256_S16x256x512_S2048x16x512_1_1_0_02_n_n none l r (ix3 t e f)
      = ∑ k : Fin 256, l (ix2 t k) * r (ix3 e k f) := by
  refine (Ideal.dotGeneral_apply _ _ _ _ _ _).trans ?_
  rw [← Equiv.sum_comp (contrEquiv1 dot_S2048x256_S16x256x512_S2048x16x512_1_1_0_02_n_n 256 rfl rfl).symm]
  refine Finset.sum_congr rfl fun k _ => ?_
  congr 1
  · exact congrArg l (funext fun a => Fin.ext (by match a with | ⟨0, _⟩ => rfl | ⟨1, _⟩ => rfl))
  · exact congrArg r (funext fun a => Fin.ext (by match a with | ⟨0, _⟩ => rfl | ⟨1, _⟩ => rfl | ⟨2, _⟩ => rfl))

theorem zero_apply : (constant (F := Ideal) S_ .f32 0x00000000#32) (Shape.Idx.first h_S_) = (0 : EReal) := Ideal.ofBits_zero_f32

/-- A token's sum over the experts. -/
theorem sum_experts (v : FVec Ideal S2048x16 .f32) (t : Fin 2048) :
    Host.reduceAdd v (constant S_ .f32 0x00000000#32) reducesTo_S2048x16_S2048_d1 h_S_ (ix1 t) = ∑ e : Fin 16, v (ix2 t e) := by
  refine (Ideal.hostReduceAdd_single reducesTo_S2048x16_S2048_d1 (by decide : S2048x16.Reduces [1] S2048) v _ _).trans ?_
  rw [zero_apply, zero_add]
  exact Finset.sum_congr rfl fun e _ => congrArg v (funext fun a => Fin.ext (by match a with | ⟨0, _⟩ => rfl | ⟨1, _⟩ => rfl))

/-- A token's sum over the experts at a column. -/
theorem sum_experts_col (v : FVec Ideal S2048x16x512 .f32) (t : Fin 2048) (f : Fin 512) :
    Host.reduceAdd v (constant S_ .f32 0x00000000#32) reducesTo_S2048x16x512_S2048x512_d1 h_S_ (ix2 t f)
      = ∑ e : Fin 16, v (ix3 t e f) := by
  refine (Ideal.hostReduceAdd_single reducesTo_S2048x16x512_S2048x512_d1 (by decide : S2048x16x512.Reduces [1] S2048x512) v _ _).trans ?_
  rw [zero_apply, zero_add]
  exact Finset.sum_congr rfl fun e _ => congrArg v (funext fun a => Fin.ext (by
    match a with | ⟨0, _⟩ => rfl | ⟨1, _⟩ => rfl | ⟨2, _⟩ => rfl))

/-- A token's largest over the experts. -/
theorem max_experts (v : FVec Ideal S2048x16 .f32) (t : Fin 2048) :
    Host.reduce FloatOps.maximumf v (constant S_ .f32 0xFF800000#32) reducesTo_S2048x16_S2048_d1 h_S_ (ix1 t)
      = best fun e => v (ix2 t e) := by
  refine (Host.reduce_eq_fold_single (max : EReal → EReal → EReal) v _ reducesTo_S2048x16_S2048_d1
    (by decide : S2048x16.Reduces [1] S2048) h_S_ (ix1 t)).trans ?_
  unfold best
  rw [show (constant (F := Ideal) S_ .f32 0xFF800000#32) (Shape.Idx.first h_S_) = (⊥ : EReal) from ofBits_negInf]
  exact congrArg (fun g => (Finset.univ : Finset (Fin 16)).fold max ⊥ g) (funext fun e => congrArg v (funext fun a => Fin.ext (by
    match a with | ⟨0, _⟩ => rfl | ⟨1, _⟩ => rfl)))

/-- A token's value spread over the experts. -/
theorem over_experts {α : Type} (v : S2048.Idx → α) (t : Fin 2048) (e : Fin 16) :
    broadcastInDim S2048x16 ![0, 1] bcast_S2048x1_S2048x16_0_1 (broadcastInDim S2048x1 ![0] bcast_S2048_S2048x1_0 v) (ix2 t e) = v (ix1 t) := by
  rw [broadcastInDim_apply _ _ _ (ix2 t e) (ix2 t (0 : Fin 1)) (fun a => by match a with | ⟨0, _⟩ => rfl | ⟨1, _⟩ => rfl)]
  exact broadcastInDim_apply _ _ _ _ (ix1 t) (fun a => by match a with | ⟨0, _⟩ => rfl)

/-- A token's value spread over the columns. -/
theorem over_columns {α : Type} (v : S2048.Idx → α) (t : Fin 2048) (f : Fin 512) :
    broadcastInDim S2048x512 ![0, 1] bcast_S2048x1_S2048x512_0_1 (broadcastInDim S2048x1 ![0] bcast_S2048_S2048x1_0 v) (ix2 t f) = v (ix1 t) := by
  rw [broadcastInDim_apply _ _ _ (ix2 t f) (ix2 t (0 : Fin 1)) (fun a => by match a with | ⟨0, _⟩ => rfl | ⟨1, _⟩ => rfl)]
  exact broadcastInDim_apply _ _ _ _ (ix1 t) (fun a => by match a with | ⟨0, _⟩ => rfl)

/-- A token's and an expert's value spread over the columns. -/
theorem pair_over_columns {α : Type} (v : S2048x16.Idx → α) (t : Fin 2048) (e : Fin 16) (f : Fin 512) :
    broadcastInDim S2048x16x512 ![0, 1, 2] bcast_S2048x16x1_S2048x16x512_0_1_2
      (broadcastInDim S2048x16x1 ![0, 1] bcast_S2048x16_S2048x16x1_0_1 v) (ix3 t e f) = v (ix2 t e) := by
  rw [broadcastInDim_apply _ _ _ (ix3 t e f) (ix3 t e (0 : Fin 1)) (fun a => by
    match a with | ⟨0, _⟩ => rfl | ⟨1, _⟩ => rfl | ⟨2, _⟩ => rfl)]
  exact broadcastInDim_apply _ _ _ _ (ix2 t e) (fun a => by match a with | ⟨0, _⟩ => rfl | ⟨1, _⟩ => rfl)

/-! ## The reference's stages -/

/-- Each token's chosen expert as a row of ones and zeros. -/
def marks (a2 : IVec S2048x1 32) : FVec Ideal S2048x16 .f32 :=
  uitofp .f32 (cmpi .eq (broadcastInDim S2048x16 ![0, 1] bcast_S2048x1_S2048x16_0_1 (broadcastInDim S2048x1 ![0] bcast_S2048_S2048x1_0
    (shapeCast _ a2 shapeCasts_S2048x1_S2048))) (broadcastInDim S2048x16 ![0, 1] bcast_S1x16_S2048x16_0_1 (iotaInDim S1x16 32 1)))

theorem marks_apply (a2 : IVec S2048x1 32) (t : Fin 2048) (e : Fin 16) :
    marks a2 (ix2 t e) = if chosen (a2 (ix2 t 0)) e then 1 else 0 := by
  have h1 : broadcastInDim S2048x16 ![0, 1] bcast_S2048x1_S2048x16_0_1 (broadcastInDim S2048x1 ![0] bcast_S2048_S2048x1_0
      (shapeCast _ a2 shapeCasts_S2048x1_S2048)) (ix2 t e) = a2 (ix2 t 0) := by
    rw [over_experts]
    exact shapeCast_apply a2 _ (ix1 t) (ix2 t (0 : Fin 1)) (by rw [Shape.rowMajor_val_one, Shape.rowMajor_val_two]; simp)
  have h2 : broadcastInDim S2048x16 ![0, 1] bcast_S1x16_S2048x16_0_1 (iotaInDim S1x16 32 1) (ix2 t e) = BitVec.ofNat 32 e.val :=
    broadcastInDim_apply _ _ _ (ix2 t e) (ix2 (0 : Fin 1) e) (fun a => by match a with | ⟨0, _⟩ => rfl | ⟨1, _⟩ => rfl)
  unfold marks
  show (((IntOp.cmpi .eq _ _ : BitVec 1).toNat : ℝ) : EReal) = _
  rw [h1, h2, eq_bit]
  by_cases h : chosen (a2 (ix2 t 0)) e
  · rw [if_pos (show a2 (ix2 t 0) = BitVec.ofNat 32 e.val from h), if_pos h]; simp
  · rw [if_neg (show ¬ a2 (ix2 t 0) = BitVec.ofNat 32 e.val from h), if_neg h]; simp

/-- The tokens' scores. -/
def scores (a0 : FVec Ideal S2048x256 .bf16) (a1 : FVec Ideal S256x16 .bf16) : FVec Ideal S2048x16 .f32 :=
  Host.dotGeneral dot_S2048x256_S256x16_S2048x16_1_0_0_1_n_n none (extf .f32 a0 bitsLt_bf16_f32) (extf .f32 a1 bitsLt_bf16_f32)

/-- Their exponentials, each token's largest score taken away first. -/
def exps (s : FVec Ideal S2048x16 .f32) : FVec Ideal S2048x16 .f32 :=
  Host.exp (subf s (broadcastInDim S2048x16 ![0, 1] bcast_S2048x1_S2048x16_0_1 (broadcastInDim S2048x1 ![0] bcast_S2048_S2048x1_0
    (Host.reduce FloatOps.maximumf s (constant S_ .f32 0xFF800000#32) reducesTo_S2048x16_S2048_d1 h_S_))))

theorem exps_apply (s : FVec Ideal S2048x16 .f32) (t : Fin 2048) (e : Fin 16) :
    exps s (ix2 t e) = Ideal.exp (s (ix2 t e) - best fun e' => s (ix2 t e')) := by
  refine congrArg (fun b : EReal => Ideal.exp (s (ix2 t e) - b)) ?_
  exact (over_experts _ t e).trans (max_experts s t)

/-- The softmax. -/
def probs (s : FVec Ideal S2048x16 .f32) : FVec Ideal S2048x16 .f32 :=
  Host.divf (exps s) (broadcastInDim S2048x16 ![0, 1] bcast_S2048x1_S2048x16_0_1 (broadcastInDim S2048x1 ![0] bcast_S2048_S2048x1_0
    (Host.reduceAdd (exps s) (constant S_ .f32 0x00000000#32) reducesTo_S2048x16_S2048_d1 h_S_)))

theorem probs_apply (s : FVec Ideal S2048x16 .f32) (t : Fin 2048) (e : Fin 16) : probs s (ix2 t e) = prob (fun e' => s (ix2 t e')) e := by
  have h : broadcastInDim S2048x16 ![0, 1] bcast_S2048x1_S2048x16_0_1 (broadcastInDim S2048x1 ![0] bcast_S2048_S2048x1_0
      (Host.reduceAdd (exps s) (constant S_ .f32 0x00000000#32) reducesTo_S2048x16_S2048_d1 h_S_)) (ix2 t e)
      = ∑ e', Ideal.exp (s (ix2 t e') - best fun e'' => s (ix2 t e'')) := by
    rw [over_experts, sum_experts]
    exact Finset.sum_congr rfl fun e' _ => exps_apply s t e'
  show Ideal.div (exps s (ix2 t e)) _ = _
  rw [h, exps_apply]
  rfl

/-- The reference's result as a term of its arguments. -/
def result (a0 : FVec Ideal S2048x256 .bf16) (a1 : FVec Ideal S256x16 .bf16) (a2 : IVec S2048x1 32) (a3 : FVec Ideal S16x256x512 .bf16)
    (a4 : FVec Ideal S256x512 .bf16) : FVec Ideal S2048x512 .f32 :=
  addf (Host.dotGeneral dot_S2048x256_S256x512_S2048x512_1_0_0_1_n_n none (extf .f32 a0 bitsLt_bf16_f32) (extf .f32 a4 bitsLt_bf16_f32))
    (mulf (broadcastInDim S2048x512 ![0, 1] bcast_S2048x1_S2048x512_0_1 (broadcastInDim S2048x1 ![0] bcast_S2048_S2048x1_0
        (Host.reduceAdd (mulf (probs (scores a0 a1)) (marks a2)) (constant S_ .f32 0x00000000#32) reducesTo_S2048x16_S2048_d1 h_S_)))
      (Host.reduceAdd (mulf (Host.dotGeneral dot_S2048x256_S16x256x512_S2048x16x512_1_1_0_02_n_n none (extf .f32 a0 bitsLt_bf16_f32)
          (extf .f32 a3 bitsLt_bf16_f32)) (broadcastInDim S2048x16x512 ![0, 1, 2] bcast_S2048x16x1_S2048x16x512_0_1_2
          (broadcastInDim S2048x16x1 ![0, 1] bcast_S2048x16_S2048x16x1_0_1 (marks a2))))
        (constant S_ .f32 0x00000000#32) reducesTo_S2048x16x512_S2048x512_d1 h_S_))

/-- THE REFERENCE'S RESULT at a token and a column. -/
theorem result_apply (a0 : FVec Ideal S2048x256 .bf16) (a1 : FVec Ideal S256x16 .bf16) (a2 : IVec S2048x1 32)
    (a3 : FVec Ideal S16x256x512 .bf16) (a4 : FVec Ideal S256x512 .bf16) (t : Fin 2048) (f : Fin 512) :
    result a0 a1 a2 a3 a4 (ix2 t f)
      = plain (fun k => a0 (ix2 t k)) (fun k e => a1 (ix2 k e)) (a2 (ix2 t 0)) (fun e k => a3 (ix3 e k f)) (fun k => a4 (ix2 k f)) := by
  unfold result plain
  rw [addf_apply, mulf_apply, dot_shared, over_columns, sum_experts, sum_experts_col]
  congr 1
  congr 1
  · rw [← weight_eq]
    refine Finset.sum_congr rfl fun e _ => ?_
    rw [mulf_apply, probs_apply, marks_apply]
    congr 2
    funext e'
    exact dot_score _ _ t e'
  · refine Finset.sum_congr rfl fun e _ => ?_
    rw [mulf_apply, dot_every, pair_over_columns, marks_apply]
    rfl

variable (m : (ℓ : Loc nD τ sig) → Buf (Elt Ideal) ℓ) (ρ : Dev nD → PrngReg)

/-- The reference's run leaves that result and its arguments. -/
theorem run : θ_run defs (onTc (τ := τ) (main (F := Ideal))) ⟨m, fun _ => 0, ρ⟩ fun r => ∀ c : Dev nD,
    r.2.mem ((c.tc : Thread nD τ).loc main_v27) = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  Cert.ReferenceIdeal.Value.run (F := Ideal) m ρ

end Cert.ReferenceIdeal.Read

end
-- ==== Proof.Equal.lean ====
/-
# The kernel's result is the reference's

From arguments the devices hold their parts of, each device's result is its part of the reference's.
-/
module

public import proofs.«01_k».proof.Defs
public import proofs.«01_k».proof.Proof.KernelIdeal.Value
public import proofs.«01_k».proof.Proof.Reference

@[expose] public section

noncomputable section

namespace Cert.Equal

open Idealize.ShloMosaic Idealize.ShloMosaic.TcCoe Idealize.ShloMosaic.ValueIdx
open Idealize.SL.Sem
open Cert.Layer Cert.KernelIdeal.Relay

/-- The precondition's side conditions, over a device's part -/
theorem pre_facts : Cert.Pre_finite_KernelIdeal.Facts := ⟨by decide, by decide, by decide⟩
/-- and over the whole. -/
theorem pre_facts_whole : Cert.Pre_finite_ReferenceIdeal.Facts := ⟨by decide, by decide, by decide⟩

variable (m : (ℓ : Loc Cert.KernelIdeal.nD Cert.KernelIdeal.τ Cert.KernelIdeal.sig) → Buf (Elt Ideal) ℓ)

/-- The precondition makes a device's tokens real -/
theorem row_real [Cert.Pre_finite_KernelIdeal.Facts] (hp : Cert.Pre_KernelIdeal_finite_KernelIdeal m) (c : Dev Cert.KernelIdeal.nD)
    (t : Fin 512) (k : Fin 256) : IsReal (row m c t k) := by
  have h : Ideal.cmp .olt (max (row m c t k) (-(row m c t k))) (Ideal.ofBits .f32 0x7F800000#32) = 1#1 := congrFun (hp c).1 (ix2 t k)
  rw [ofBits_inf] at h
  exact real_of_lt h

/-- and its router's matrix. -/
theorem router_real [Cert.Pre_finite_KernelIdeal.Facts] (hp : Cert.Pre_KernelIdeal_finite_KernelIdeal m) (c : Dev Cert.KernelIdeal.nD)
    (k : Fin 256) (e : Fin 16) : IsReal (router m c k e) := by
  have h : Ideal.cmp .olt (max (router m c k e) (-(router m c k e))) (Ideal.ofBits .f32 0x7F800000#32) = 1#1 := congrFun (hp c).2 (ix2 k e)
  rw [ofBits_inf] at h
  exact real_of_lt h

/-- A token of a device among all tokens. -/
def token (c : Fin 4) (t : Fin 512) : Fin 2048 := ⟨c.val * 512 + t.val, by have := c.isLt; have := t.isLt; omega⟩

/-- A device's part of an array cut by rows reads the whole at the device's rows. -/
theorem block_row {α : Type} {n : Nat} (c : Fin 4) (v : (⟨2, ![2048, n]⟩ : Shape).Idx → α) (h : Layout.Tiles ⟨2, ![512, n]⟩ ⟨2, ![2048, n]⟩ 0 4)
    (t : Fin 512) (k : Fin n) : Layout.block ⟨2, ![512, n]⟩ ⟨2, ![2048, n]⟩ 0 4 c v h (ix2 t k) = v (ix2 (token c t) k) :=
  congrArg v (funext fun a => Fin.ext (by match a with | ⟨0, _⟩ => rfl | ⟨1, _⟩ => rfl))

/-- An expert's weights, read where the expert lives, are the whole array's. -/
theorem block_expert {α : Type} (v : (⟨3, ![16, 256, 512]⟩ : Shape).Idx → α)
    (h : Layout.Tiles ⟨3, ![4, 256, 512]⟩ ⟨3, ![16, 256, 512]⟩ 0 4) (e : Fin 16) (k : Fin 256) (f : Fin 512) :
    Layout.block ⟨3, ![4, 256, 512]⟩ ⟨3, ![16, 256, 512]⟩ 0 4 (home e) v h (ix3 (place e) k f) = v (ix3 e k f) :=
  congrArg v (funext fun a => Fin.ext (by
    match a with
    | ⟨0, _⟩ => show e.val / 4 * 4 + e.val % 4 = e.val; omega
    | ⟨1, _⟩ => rfl
    | ⟨2, _⟩ => rfl))

/-- EACH DEVICE'S RESULT is its part of the reference's. -/
theorem out_block [Cert.Pre_finite_KernelIdeal.Facts] (hp : Cert.Pre_KernelIdeal_finite_KernelIdeal m) (c : Dev Cert.KernelIdeal.nD)
    (a0 : FVec Ideal ⟨2, ![2048, 256]⟩ .bf16) (a1 : FVec Ideal ⟨2, ![256, 16]⟩ .bf16) (a2 : IVec ⟨2, ![2048, 1]⟩ 32)
    (a3 : FVec Ideal ⟨3, ![16, 256, 512]⟩ .bf16) (a4 : FVec Ideal ⟨2, ![256, 512]⟩ .bf16)
    (h0 : m ((c.tc : Thread Cert.KernelIdeal.nD Cert.KernelIdeal.τ).loc Cert.KernelIdeal.main_arg0) = Layout.block ⟨2, ![512, 256]⟩ ⟨2, ![2048, 256]⟩ 0 4 c a0)
    (h1 : m ((c.tc : Thread Cert.KernelIdeal.nD Cert.KernelIdeal.τ).loc Cert.KernelIdeal.main_arg1) = a1)
    (h2 : m ((c.tc : Thread Cert.KernelIdeal.nD Cert.KernelIdeal.τ).loc Cert.KernelIdeal.main_arg2) = Layout.block ⟨2, ![512, 1]⟩ ⟨2, ![2048, 1]⟩ 0 4 c a2)
    (h3 : ∀ o : Dev Cert.KernelIdeal.nD, m ((o.tc : Thread Cert.KernelIdeal.nD Cert.KernelIdeal.τ).loc Cert.KernelIdeal.main_arg3)
      = Layout.block ⟨3, ![4, 256, 512]⟩ ⟨3, ![16, 256, 512]⟩ 0 4 o a3)
    (h4 : m ((c.tc : Thread Cert.KernelIdeal.nD Cert.KernelIdeal.τ).loc Cert.KernelIdeal.main_arg4) = a4) :
    outAt m c = Layout.block ⟨2, ![512, 512]⟩ ⟨2, ![2048, 512]⟩ 0 4 c (Cert.ReferenceIdeal.Read.result a0 a1 a2 a3 a4) := by
  funext j
  obtain ⟨t, f, rfl⟩ : ∃ (t : Fin 512) (f : Fin 512), j = ix2 t f := ⟨j 0, j 1, funext fun a => by match a with | ⟨0, _⟩ => rfl | ⟨1, _⟩ => rfl⟩
  refine (out_apply m c t f).trans ?_
  refine (fused_eq_plain (row_real m hp c t) (router_real m hp c) _ _ _).trans ?_
  refine Eq.trans ?_ (block_row c (Cert.ReferenceIdeal.Read.result a0 a1 a2 a3 a4) (by decide) t f).symm
  refine Eq.trans ?_ (Cert.ReferenceIdeal.Read.result_apply a0 a1 a2 a3 a4 (token c t) f).symm
  have e0 : row m c t = fun k => a0 (ix2 (token c t) k) := funext fun k => (congrFun h0 (ix2 t k)).trans (block_row c a0 _ t k)
  have e1 : router m c = fun k e => a1 (ix2 k e) := funext fun k => funext fun e => congrFun h1 (ix2 k e)
  have e2 : choice m c t = a2 (ix2 (token c t) 0) := (congrFun h2 (ix2 t 0)).trans (block_row c a2 _ t 0)
  have e3 : column m f = fun e k => a3 (ix3 e k f) := funext fun e => funext fun k =>
    (congrFun (h3 (home e)) (ix3 (place e) k f)).trans (block_expert a3 _ e k f)
  have e4 : shared m c f = fun k => a4 (ix2 k f) := funext fun k => congrFun h4 (ix2 k f)
  rw [e0, e1, e2, e3, e4]

/-- THE VALUE CLAIM: both programs run, and each device of the kernel ends holding its part of the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := by
  intro m g m' g' hp hargs
  refine ⟨_, (θ_run _ _ _).mono (fun r h c => ⟨?_, ?_, ?_, ?_, ?_, ?_⟩) (run_main (F := Ideal) m g),
    (θ_run _ _ _).mono (fun r h => h 0) (Cert.ReferenceIdeal.Read.run m' g')⟩
  · refine ((h.1 c 5).trans (arrAt_out m c)).trans ?_
    exact @out_block m pre_facts hp c _ _ _ _ _ (hargs c).1 (hargs c).2.1 (hargs c).2.2.1 (fun o => (hargs o).2.2.2.1) (hargs c).2.2.2.2
  · exact (h.1 c 0).trans ((dats m 0 c).arrAt_in 0 rfl _)
  · exact (h.1 c 1).trans ((dats m 0 c).arrAt_in 1 rfl _)
  · exact (h.1 c 2).trans ((dats m 0 c).arrAt_in 2 rfl _)
  · exact (h.1 c 3).trans ((dats m 0 c).arrAt_in 3 rfl _)
  · exact (h.1 c 4).trans ((dats m 0 c).arrAt_in 4 rfl _)

end Cert.Equal

end
-- ==== Proof.lean ====
/-
The proof of `Cert.Claim`: the two frames of the kernel (one proof, once for each printing of the program), the frame
of the reference, and the equality of their results over the extended reals.
-/
module

public import proofs.«01_k».proof.Defs
public import proofs.«01_k».proof.Proof.Kernel.Run
public import proofs.«01_k».proof.Proof.KernelIdeal.Run
public import proofs.«01_k».proof.Proof.Equal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Equal.pre_facts, Cert.Equal.pre_facts_whole, fun m g _ => Cert.Kernel.Relay.frame m g,
  fun m g _ => Cert.KernelIdeal.Relay.frame m g, fun m g _ => Cert.KernelIdeal.Relay.frame m g, frame_ref, fun m g _ => frame_ref m g trivial,
  trivial, Cert.Equal.algebraic⟩

end Cert.Proof

end
